-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_score_inputs_KernelIdeal [hPre_finite_score_inputs_KernelIdeal : Cert.Pre_finite_score_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_score_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_score_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_score_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_score_inputs_ReferenceIdeal [hPre_finite_score_inputs_ReferenceIdeal : Cert.Pre_finite_score_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_score_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_score_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_score_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_score_inputs_KernelIdeal [hKernelIdeal : Cert.KernelIdeal.Facts] [hPre_finite_score_inputs_KernelIdeal : Cert.Pre_finite_score_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_score_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_score_inputs_ReferenceIdeal [hReferenceIdeal : Cert.ReferenceIdeal.Facts] [hPre_finite_score_inputs_ReferenceIdeal : Cert.Pre_finite_score_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_score_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_score_inputs_KernelIdeal [hKernelIdeal : Cert.KernelIdeal.Facts] [hReferenceIdeal : Cert.ReferenceIdeal.Facts] [hPre_finite_score_inputs_KernelIdeal : Cert.Pre_finite_score_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_score_inputs_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![8, 512, 768]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.block ⟨3, ![2, 512, 768]⟩ ⟨3, ![8, 512, 768]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_score_inputs_KernelIdeal : Cert.Pre_finite_score_inputs_KernelIdeal.Facts) (hPre_finite_score_inputs_ReferenceIdeal : Cert.Pre_finite_score_inputs_ReferenceIdeal.Facts),
    quiescent_Kernel (hKernel := hKernel)
    ∧ quiescent_KernelIdeal (hKernelIdeal := hKernelIdeal)
    ∧ quiescent_KernelIdeal_pre_finite_score_inputs_KernelIdeal (hKernelIdeal := hKernelIdeal) (hPre_finite_score_inputs_KernelIdeal := hPre_finite_score_inputs_KernelIdeal)
    ∧ quiescent_ReferenceIdeal (hReferenceIdeal := hReferenceIdeal)
    ∧ quiescent_ReferenceIdeal_pre_finite_score_inputs_ReferenceIdeal (hReferenceIdeal := hReferenceIdeal) (hPre_finite_score_inputs_ReferenceIdeal := hPre_finite_score_inputs_ReferenceIdeal)
    ∧ preserves_Kernel_KernelIdeal
    ∧ algebraic_KernelIdeal_ReferenceIdeal_pre_finite_score_inputs_KernelIdeal (hKernelIdeal := hKernelIdeal) (hReferenceIdeal := hReferenceIdeal) (hPre_finite_score_inputs_KernelIdeal := hPre_finite_score_inputs_KernelIdeal)
-- ==== Pre_finite_score_inputs_KernelIdeal.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S8x512x32x64 : S_.BroadcastsInDim S8x512x32x64 (![] : Fin 0 → Fin S8x512x32x64.rank)

variable [Facts]

def fn {F : FTy → Type} [FloatOps F] (main_arg0 : FVec F S2x512x768 .bf16) (main_arg1 : FVec F S768x512 .bf16) (main_arg2 : FVec F S8x512x32x64 .bf16) (main_arg3 : FVec F S8x512x32x64 .bf16) (main_arg4 : FVec F S512x768 .bf16) : IVec S2x512x768 1 × IVec S768x512 1 × IVec S8x512x32x64 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_v3 : FVec F S768x512 .bf16 := Host.absf main_arg1
  let main_cst_0 : FVec F S_ .bf16 := constant S_ .bf16 0x7F80#16
  let main_v4 : FVec F S768x512 .bf16 := broadcastInDim S768x512 ![] bcast_S_S768x512 main_cst_0
  let main_v5 : IVec S768x512 1 := cmpf .olt main_v3 main_v4
  let main_v6 : FVec F S8x512x32x64 .bf16 := Host.absf main_arg2
  let main_cst_1 : FVec F S_ .bf16 := constant S_ .bf16 0x7F80#16
  let main_v7 : FVec F S8x512x32x64 .bf16 := broadcastInDim S8x512x32x64 ![] bcast_S_S8x512x32x64 main_cst_1
  let main_v8 : IVec S8x512x32x64 1 := cmpf .olt main_v6 main_v7
  (main_v2, main_v5, main_v8)
-- ==== Pre_finite_score_inputs_ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S_ : Shape := ⟨0, ![]⟩

class Facts : Prop where
  bcast_S_S8x512x768 : S_.BroadcastsInDim S8x512x768 (![] : Fin 0 → Fin S8x512x768.rank)
  bcast_S_S768x2048 : S_.BroadcastsInDim S768x2048 (![] : Fin 0 → Fin S768x2048.rank)
  bcast_S_S8x512x32x64 : S_.BroadcastsInDim S8x512x32x64 (![] : Fin 0 → Fin S8x512x32x64.rank)

variable [Facts]

def fn {F : FTy → Type} [FloatOps F] (main_arg0 : FVec F S8x512x768 .bf16) (main_arg1 : FVec F S768x2048 .bf16) (main_arg2 : FVec F S8x512x32x64 .bf16) (main_arg3 : FVec F S8x512x32x64 .bf16) (main_arg4 : FVec F S2048x768 .bf16) : IVec S8x512x768 1 × IVec S768x2048 1 × IVec S8x512x32x64 1 :=
  let main_v0 : FVec F S8x512x768 .bf16 := Host.absf main_arg0
  let main_cst : FVec F S_ .bf16 := constant S_ .bf16 0x7F80#16
  let main_v1 : FVec F S8x512x768 .bf16 := broadcastInDim S8x512x768 ![] bcast_S_S8x512x768 main_cst
  let main_v2 : IVec S8x512x768 1 := cmpf .olt main_v0 main_v1
  let main_v3 : FVec F S768x2048 .bf16 := Host.absf main_arg1
  let main_cst_0 : FVec F S_ .bf16 := constant S_ .bf16 0x7F80#16
  let main_v4 : FVec F S768x2048 .bf16 := broadcastInDim S768x2048 ![] bcast_S_S768x2048 main_cst_0
  let main_v5 : IVec S768x2048 1 := cmpf .olt main_v3 main_v4
  let main_v6 : FVec F S8x512x32x64 .bf16 := Host.absf main_arg2
  let main_cst_1 : FVec F S_ .bf16 := constant S_ .bf16 0x7F80#16
  let main_v7 : FVec F S8x512x32x64 .bf16 := broadcastInDim S8x512x32x64 ![] bcast_S_S8x512x32x64 main_cst_1
  let main_v8 : IVec S8x512x32x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩
abbrev S2x512x32x64 : Shape := ⟨4, ![2, 512, 32, 64]⟩
abbrev S2x512x4x8x64 : Shape := ⟨5, ![2, 512, 4, 8, 64]⟩
abbrev S4x2x8x512x64 : Shape := ⟨5, ![4, 2, 8, 512, 64]⟩
abbrev S3x768x512 : Shape := ⟨3, ![3, 768, 512]⟩
abbrev S3x512x768 : Shape := ⟨3, ![3, 512, 768]⟩
abbrev S3 : Shape := ⟨1, ![3]⟩
abbrev S512x512 : Shape := ⟨2, ![512, 512]⟩
abbrev S1 : Shape := ⟨1, ![1]⟩
abbrev S1x768x512 : Shape := ⟨3, ![1, 768, 512]⟩
abbrev S1x512x768 : Shape := ⟨3, ![1, 512, 768]⟩
abbrev S512x8x64 : Shape := ⟨3, ![512, 8, 64]⟩
abbrev S8x512x64 : Shape := ⟨3, ![8, 512, 64]⟩
abbrev S1x1x8x512x64 : Shape := ⟨5, ![1, 1, 8, 512, 64]⟩
abbrev S8x512x512 : Shape := ⟨3, ![8, 512, 512]⟩
abbrev S1x512x512 : Shape := ⟨3, ![1, 512, 512]⟩
abbrev S8x512 : Shape := ⟨2, ![8, 512]⟩
abbrev S8x512x1 : Shape := ⟨3, ![8, 512, 1]⟩

abbrev nBuf : Space → Nat
  | .hbm => 38
  | .vmem => 8
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S8x512x32x64, .bf16⟩
  | .hbm, ⟨3, _⟩ => ⟨S8x512x32x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x32x64, .bf16⟩
  | .hbm, ⟨22, _⟩ => ⟨S2x512x4x8x64, .bf16⟩
  | .hbm, ⟨23, _⟩ => ⟨S4x2x8x512x64, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2x512x32x64, .bf16⟩
  | .hbm, ⟨35, _⟩ => ⟨S2x512x4x8x64, .bf16⟩
  | .hbm, ⟨36, _⟩ => ⟨S4x2x8x512x64, .bf16⟩
  | .hbm, ⟨37, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S4x2x8x512x64, .bf16⟩
  | .local _ .vmem, ⟨3, _⟩ => ⟨S4x2x8x512x64, .bf16⟩
  | .local _ .vmem, ⟨4, _⟩ => ⟨S512x768, .bf16⟩
  | .local _ .vmem, ⟨5, _⟩ => ⟨S2x512x768, .f32⟩
  | .local _ .vmem, ⟨6, _⟩ => ⟨S3x768x512, .bf16⟩
  | .local _ .vmem, ⟨7, _⟩ => ⟨S3x512x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_38 : BitVec 32 := 1#32
  let v96 : BitVec 32 := Scalar.muli v7 c1_i32_38
  let v97 : BitVec 32 := Scalar.addi c0_i32_39 v96
  v97.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_45 : BitVec 32 := 1#32
  let v104 : BitVec 32 := Scalar.muli v7 c1_i32_45
  let v105 : BitVec 32 := Scalar.addi c0_i32_46 v104
  v105.toNat
def k0_off1 (d0 : Dev nD) (c0_i32_50 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v114 : BitVec 32 := Scalar.subi v2 c0_i32_50
  let c4_i32_51 : BitVec 32 := 4#32
  let v115 : BitVec 32 := Scalar.addi v114 c4_i32_51
  let c4_i32_52 : BitVec 32 := 4#32
  let v116 : BitVec 32 := Scalar.remsi v115 c4_i32_52
  let v123 : Index := Scalar.indexCast v116
  let c0_56 : Index := 0#32
  let c0_57 : Index := 0#32
  let c0_58 : Index := 0#32
  let c0_59 : Index := 0#32
  ![v123.toNat, 0, 0, 0, 0]
def k0_off2 (d0 : Dev nD) (c0_i32_50 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v114 : BitVec 32 := Scalar.subi v2 c0_i32_50
  let c4_i32_51 : BitVec 32 := 4#32
  let v115 : BitVec 32 := Scalar.addi v114 c4_i32_51
  let c4_i32_52 : BitVec 32 := 4#32
  let v116 : BitVec 32 := Scalar.remsi v115 c4_i32_52
  let v153 : Index := Scalar.indexCast v116
  let c1_72 : Index := 1#32
  let c0_73 : Index := 0#32
  let c0_74 : Index := 0#32
  let c0_75 : Index := 0#32
  ![v153.toNat, 1, 0, 0, 0]
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_109 : BitVec 32 := 1#32
  let v195 : BitVec 32 := Scalar.muli v7 c1_i32_109
  let v196 : BitVec 32 := Scalar.addi c0_i32_110 v195
  v196.toNat
def k0_dev6 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_169 : BitVec 32 := 1#32
  let v278 : BitVec 32 := Scalar.muli v7 c1_i32_169
  let v279 : BitVec 32 := Scalar.addi c0_i32_170 v278
  v279.toNat
def k0_dev7 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_206 : BitVec 32 := 1#32
  let v312 : BitVec 32 := Scalar.muli v7 c1_i32_206
  let v313 : BitVec 32 := Scalar.addi c0_i32_207 v312
  v313.toNat
def k0_dev8 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_266 : BitVec 32 := 1#32
  let v395 : BitVec 32 := Scalar.muli v7 c1_i32_266
  let v396 : BitVec 32 := Scalar.addi c0_i32_267 v395
  v396.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x8x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x8x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S8x512x2048 : Shape := ⟨3, ![8, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S8x32x512x512 : Shape := ⟨4, ![8, 32, 512, 512]⟩
abbrev S1x1x512x512 : Shape := ⟨4, ![1, 1, 512, 512]⟩
abbrev S8x32x512 : Shape := ⟨3, ![8, 32, 512]⟩
abbrev S8x32x512x1 : Shape := ⟨4, ![8, 32, 512, 1]⟩
abbrev S1x1x512x1 : Shape := ⟨4, ![1, 1, 512, 1]⟩
abbrev S8x32x64x512 : Shape := ⟨4, ![8, 32, 64, 512]⟩

abbrev nBuf : Space → Nat
  | .hbm => 142
  | .vmem => 0
  | .smem => 0
  | _ => 0

abbrev hbmTy0_0 (i : Nat) : BufTy := match i % 128 with
  | 0 => ⟨S8x512x768, .bf16⟩
  | 1 => ⟨S768x2048, .bf16⟩
  | 2 => ⟨S8x512x32x64, .bf16⟩
  | 3 => ⟨S8x512x32x64, .bf16⟩
  | 4 => ⟨S2048x768, .bf16⟩
  | 5 => ⟨S8x512x768, .f32⟩
  | 6 => ⟨S768x2048, .f32⟩
  | 7 => ⟨S8x512x32x64, .f32⟩
  | 8 => ⟨S8x512x32x64, .f32⟩
  | 9 => ⟨S2048x768, .f32⟩
  | 10 => ⟨S8x512x2048, .f32⟩
  | 11 => ⟨S8x512x32x64, .f32⟩
  | 12 => ⟨S512, .i32⟩
  | 13 => ⟨S_, .i32⟩
  | 14 => ⟨S_, .i32⟩
  | 15 => ⟨S512, .i32⟩
  | 16 => ⟨S512, .i32⟩
  | 17 => ⟨S512, .i32⟩
  | 18 => ⟨S_, .i32⟩
  | 19 => ⟨S512, .i32⟩
  | 20 => ⟨S512, .i1⟩
  | 21 => ⟨S512, .i32⟩
  | 22 => ⟨S512, .i32⟩
  | 23 => ⟨S_, .i32⟩
  | 24 => ⟨S512, .i32⟩
  | 25 => ⟨S512, .i1⟩
  | 26 => ⟨S512, .i1⟩
  | 27 => ⟨S_, .i32⟩
  | 28 => ⟨S512, .i32⟩
  | 29 => ⟨S512, .i32⟩
  | 30 => ⟨S512, .i32⟩
  | 31 => ⟨S512x1, .i32⟩
  | 32 => ⟨S512, .i32⟩
  | 33 => ⟨S_, .i32⟩
  | 34 => ⟨S_, .i32⟩
  | 35 => ⟨S512, .i32⟩
  | 36 => ⟨S512, .i32⟩
  | 37 => ⟨S512, .i32⟩
  | 38 => ⟨S_, .i32⟩
  | 39 => ⟨S512, .i32⟩
  | 40 => ⟨S512, .i1⟩
  | 41 => ⟨S512, .i32⟩
  | 42 => ⟨S512, .i32⟩
  | 43 => ⟨S_, .i32⟩
  | 44 => ⟨S512, .i32⟩
  | 45 => ⟨S512, .i1⟩
  | 46 => ⟨S512, .i1⟩
  | 47 => ⟨S_, .i32⟩
  | 48 => ⟨S512, .i32⟩
  | 49 => ⟨S512, .i32⟩
  | 50 => ⟨S512, .i32⟩
  | 51 => ⟨S1x512, .i32⟩
  | 52 => ⟨S512x512, .i32⟩
  | 53 => ⟨S512x512, .i32⟩
  | 54 => ⟨S512x512, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x512, .i32⟩
  | 62 => ⟨S1x512, .i32⟩
  | 63 => ⟨S_, .i32⟩
  | 64 => ⟨S1x512, .i32⟩
  | 65 => ⟨S1x512, .i1⟩
  | 66 => ⟨S_, .i32⟩
  | 67 => ⟨S1x512, .i32⟩
  | 68 => ⟨S1x512, .i1⟩
  | 69 => ⟨S_, .i32⟩
  | 70 => ⟨S_, .i1⟩
  | 71 => ⟨S1x512, .i1⟩
  | 72 => ⟨S1x512, .i1⟩
  | 73 => ⟨S1x512, .i1⟩
  | 74 => ⟨S1x512, .i32⟩
  | 75 => ⟨S1x512, .i32⟩
  | 76 => ⟨S1x512, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S512x1, .i32⟩
  | 84 => ⟨S512x1, .i32⟩
  | 85 => ⟨S_, .i32⟩
  | 86 => ⟨S512x1, .i32⟩
  | 87 => ⟨S512x1, .i1⟩
  | 88 => ⟨S_, .i32⟩
  | 89 => ⟨S512x1, .i32⟩
  | 90 => ⟨S512x1, .i1⟩
  | 91 => ⟨S_, .i32⟩
  | 92 => ⟨S_, .i1⟩
  | 93 => ⟨S512x1, .i1⟩
  | 94 => ⟨S512x1, .i1⟩
  | 95 => ⟨S512x1, .i1⟩
  | 96 => ⟨S512x1, .i32⟩
  | 97 => ⟨S512x1, .i32⟩
  | 98 => ⟨S512x1, .i32⟩
  | 99 => ⟨S512x512, .i32⟩
  | 100 => ⟨S512x512, .i32⟩
  | 101 => ⟨S512x512, .i1⟩
  | 102 => ⟨S512x512, .i1⟩
  | 103 => ⟨S8x32x512x512, .f32⟩
  | 104 => ⟨S_, .f32⟩
  | 105 => ⟨S8x32x512x512, .f32⟩
  | 106 => ⟨S8x32x512x512, .f32⟩
  | 107 => ⟨S1x1x512x512, .i1⟩
  | 108 => ⟨S_, .f32⟩
  | 109 => ⟨S_, .f32⟩
  | 110 => ⟨S8x32x512x512, .i1⟩
  | 111 => ⟨S8x32x512x512, .f32⟩
  | 112 => ⟨S8x32x512x512, .f32⟩
  | 113 => ⟨S_, .f32⟩
  | 114 => ⟨S8x32x512, .f32⟩
  | 115 => ⟨S8x32x512x1, .f32⟩
  | 116 => ⟨S8x32x512x512, .f32⟩
  | 117 => ⟨S8x32x512x512, .f32⟩
  | 118 => ⟨S8x32x512x512, .f32⟩
  | 119 => ⟨S_, .i1⟩
  | 120 => ⟨S512, .i1⟩
  | 121 => ⟨S1x1x512x1, .i1⟩
  | 122 => ⟨S_, .f32⟩
  | 123 => ⟨S8x32x512, .f32⟩
  | 124 => ⟨S8x32x512x1, .f32⟩
  | 125 => ⟨S_, .f32⟩
  | 126 => ⟨S_, .f32⟩
  | 127 => ⟨S8x32x512x1, .i1⟩
  | _ => ⟨S8x512x768, .bf16⟩

abbrev hbmTy0_1 (i : Nat) : BufTy := match i % 128 with
  | 0 => ⟨S8x32x512x1, .f32⟩
  | 1 => ⟨S8x32x512x1, .f32⟩
  | 2 => ⟨S8x32x512x512, .f32⟩
  | 3 => ⟨S8x32x512x512, .f32⟩
  | 4 => ⟨S1x1x512x1, .i1⟩
  | 5 => ⟨S_, .f32⟩
  | 6 => ⟨S_, .f32⟩
  | 7 => ⟨S8x32x512x512, .i1⟩
  | 8 => ⟨S8x32x512x512, .f32⟩
  | 9 => ⟨S8x32x512x512, .f32⟩
  | 10 => ⟨S8x32x64x512, .f32⟩
  | 11 => ⟨S8x512x32x64, .f32⟩
  | 12 => ⟨S8x512x2048, .f32⟩
  | 13 => ⟨S8x512x768, .f32⟩
  | _ => ⟨S8x512x768, .bf16⟩

abbrev hbmTy (i : Nat) : BufTy := match i / 128 with
  | 0 => hbmTy0_0 i
  | 1 => hbmTy0_1 i
  | _ => ⟨S8x512x768, .bf16⟩

abbrev bufTy : (tb : Table) → Fin (tcTables nBuf tb) → BufTy
  | .hbm, ⟨i, _⟩ => hbmTy i
  | _, _ => ⟨S8x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Schedule.lean ====
/-
  The protocol of the kernel. Four devices stand on a ring; `nxt c` is the device after `c` and `prv c` the one before.
  Each device owns a block of the query weights (`WQ c`) and a block of the output weights (`WO c`); both travel round
  the ring in three hops, so that slot `t` of a device's two landing buffers ends up holding the blocks of the device
  `t + 1` places before it.

  Semaphores, per device `c`:
  * the BARRIER: `c` waits on it for two units. One comes from `nxt c` and hands over the six landing slots of `nxt c`,
    which `c`'s copies write; the other comes from `prv c` and hands over nothing.
  * three RECEIVE semaphores per travelling array: `c` waits on number `t` for the copy of `prv c` into slot `t`; what
    lands is the block of the device `t + 1` places before `c`.
  * three SEND semaphores per travelling array: `c`'s own copies credit them; what comes back is half the share of the
    copy's source (the other half is what the body reads from while the copy is under way).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.StableHlo
public import Idealize.ShloMosaic.Lib.Tactic
public import Idealize.ShloMosaic.Lib.Pipeline.Kit
public import Idealize.ShloMosaic.Lib.Pipeline.Regions

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline library's copy and the ring's, whose duties are named by a Boolean -/

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)

/-! ## The memrefs -/

/-- The staged blocks of the two weight inputs: the sources of the first hop. -/
abbrev qIn : Memref sig .tc .vmem S768x512 .bf16 := Memref.whole cc0_stg1_0
abbrev oIn : Memref sig .tc .vmem S512x768 .bf16 := Memref.whole cc0_stg4_0

/-- The two landing buffers, whole, and their slots. -/
abbrev qBuf : Memref sig .tc .vmem S3x768x512 .bf16 := Memref.whole cc0_scratch0
abbrev oBuf : Memref sig .tc .vmem S3x512x768 .bf16 := Memref.whole cc0_scratch1

abbrev q0 : Memref sig .tc .vmem S768x512 .bf16 := (qBuf.slice (Rect.unit (s := S3x768x512) ![0, 0, 0] S1x768x512.size inb_S3x768x512_S1x768x512_0_0_0) (fun _ => rfl)).squeeze S768x512 squeezes_S1x768x512_S768x512
abbrev q1 : Memref sig .tc .vmem S768x512 .bf16 := (qBuf.slice (Rect.unit (s := S3x768x512) ![1, 0, 0] S1x768x512.size inb_S3x768x512_S1x768x512_1_0_0) (fun _ => rfl)).squeeze S768x512 squeezes_S1x768x512_S768x512
abbrev q2 : Memref sig .tc .vmem S768x512 .bf16 := (qBuf.slice (Rect.unit (s := S3x768x512) ![2, 0, 0] S1x768x512.size inb_S3x768x512_S1x768x512_2_0_0) (fun _ => rfl)).squeeze S768x512 squeezes_S1x768x512_S768x512
abbrev o0 : Memref sig .tc .vmem S512x768 .bf16 := (oBuf.slice (Rect.unit (s := S3x512x768) ![0, 0, 0] S1x512x768.size inb_S3x512x768_S1x512x768_0_0_0) (fun _ => rfl)).squeeze S512x768 squeezes_S1x512x768_S512x768
abbrev o1 : Memref sig .tc .vmem S512x768 .bf16 := (oBuf.slice (Rect.unit (s := S3x512x768) ![1, 0, 0] S1x512x768.size inb_S3x512x768_S1x512x768_1_0_0) (fun _ => rfl)).squeeze S512x768 squeezes_S1x512x768_S512x768
abbrev o2 : Memref sig .tc .vmem S512x768 .bf16 := (oBuf.slice (Rect.unit (s := S3x512x768) ![2, 0, 0] S1x512x768.size inb_S3x512x768_S1x512x768_2_0_0) (fun _ => rfl)).squeeze S512x768 squeezes_S1x512x768_S512x768

/-- What one copy of a block credits. -/
abbrev Nq : ℕ := (q0 : Memref sig .tc .vmem S768x512 .bf16).view.dmaCredit
abbrev No : ℕ := (o0 : Memref sig .tc .vmem S512x768 .bf16).view.dmaCredit
theorem Nq_pos : 0 < Nq := View.dmaCredit_pos _ (by decide)
theorem No_pos : 0 < No := View.dmaCredit_pos _ (by decide)

/-- Device `c` owns the elements of a slot at share `q`, and they hold the block `X`. -/
def slotAt {s : Shape} (v : Memref sig .tc .vmem s .bf16) (c : Dev nD) (q : PosShare TreeShare) (X : s.Idx → Elt F .bf16) : sProp 𝕄 :=
  (v.view.loc (c : Thread nD τ)) ↦[v.view.set]{q} (v.view.write (Elt F) (Classical.arbitrary _) X Finset.univ)

/-- Device `c` owns the elements of a slot, whatever they hold. -/
def slotAny {s : Shape} (v : Memref sig .tc .vmem s .bf16) (c : Dev nD) : sProp 𝕄 :=
  iprop(∃ f : Buf (Elt F) (v.view.loc (c : Thread nD τ)), (v.view.loc (c : Thread nD τ)) ↦[v.view.set]{fullShare} f)

instance slotAt_storable {s : Shape} (v : Memref sig .tc .vmem s .bf16) (c : Dev nD) (q : PosShare TreeShare) (X : s.Idx → Elt F .bf16) :
    Storable (upEmb : UEmb _ 𝕄) (slotAt v c q X) := by unfold slotAt; infer_instance
instance slotAny_storable {s : Shape} (v : Memref sig .tc .vmem s .bf16) (c : Dev nD) :
    Storable (upEmb : UEmb _ 𝕄) (slotAny (F := F) v c) := by unfold slotAny; infer_instance

/-- A block that has been copied onto a slot is what the slot holds, whatever it held before. -/
theorem slotAt_of_write {s : Shape} (v : Memref sig .tc .vmem s .bf16) (c : Dev nD)
    (fd : Buf (Elt F) (v.view.loc (c : Thread nD τ))) (X : s.Idx → Elt F .bf16) :
    ((v.view.loc (c : Thread nD τ)) ↦[v.view.set]{fullShare} (v.view.write (Elt F) fd X Finset.univ) : sProp 𝕄) ⊢ slotAt v c fullShare X := by
  unfold slotAt
  refine Entails.of_eq (pointsTo_congr fun i hi => ?_)
  exact View.write_congr (fun _ _ _ => rfl) (fun h => absurd hi h)

/-! ## The semaphores and cells -/

abbrev barS : Sem sig := (SemArray.scalar (sig.barrier 0 rfl) : Sems sig S_).sem

/-- The twelve transfer semaphores of the kernel: sends of the query weights 0–2, receives of them 3–5, sends of the
    output weights 6–8, receives of them 9–11. -/
abbrev osem : Fin 12 → SemLoc sig := fun k => .dma ((Fin.natAdd 6 k : Fin 18) : DmaSem sig)

abbrev barCell (c : Dev nD) : GSem nD τ sig := ((c : Thread nD τ), .reg barS)
abbrev cell (c : Dev nD) (k : Fin 12) : GSem nD τ sig := ((c : Thread nD τ), osem k)

/-- What the copy of transfer semaphore `k` credits. -/
def amt (k : Fin 12) : ℕ := if k.val < 6 then Nq else No

theorem amt_pos (k : Fin 12) : 0 < amt k := by
  unfold amt; split
  · exact Nq_pos
  · exact No_pos

variable (WQ : Dev nD → S768x512.Idx → Elt F .bf16) (WO : Dev nD → S512x768.Idx → Elt F .bf16)

/-- What the unit of `nxt c` on `c`'s barrier hands over: the six landing slots of `nxt c`, and that `nxt c` has opened
    its six receive cells. -/
def barPay (c : Dev nD) : sProp 𝕄 :=
  iprop((slotAny q0 (nxt c) ∗ slotAny o0 (nxt c) ∗ slotAny q1 (nxt c) ∗ slotAny o1 (nxt c) ∗ slotAny q2 (nxt c) ∗ slotAny o2 (nxt c))
    ∗ (reached ER (cell (nxt c) 3) 0 ∗ reached ER (cell (nxt c) 9) 0 ∗ reached ER (cell (nxt c) 4) 0 ∗ reached ER (cell (nxt c) 10) 0
        ∗ reached ER (cell (nxt c) 5) 0 ∗ reached ER (cell (nxt c) 11) 0))

/-- What the copy of transfer semaphore `k` hands over on device `c`: a send, half the share of its source; a receive,
    the slot holding the block that has travelled to it. -/
def pay (c : Dev nD) (k : Fin 12) : sProp 𝕄 :=
  match k with
  | 0 => (qIn.view.loc (c : Thread nD τ)) ↦[qIn.view.set]{fullShare.left} WQ c
  | 1 => slotAt q0 c fullShare.left (WQ (prv c))
  | 2 => slotAt q1 c fullShare.left (WQ (prv (prv c)))
  | 3 => slotAt q0 c fullShare (WQ (prv c))
  | 4 => slotAt q1 c fullShare (WQ (prv (prv c)))
  | 5 => slotAt q2 c fullShare (WQ (prv (prv (prv c))))
  | 6 => (oIn.view.loc (c : Thread nD τ)) ↦[oIn.view.set]{fullShare.left} WO c
  | 7 => slotAt o0 c fullShare.left (WO (prv c))
  | 8 => slotAt o1 c fullShare.left (WO (prv (prv c)))
  | 9 => slotAt o0 c fullShare (WO (prv c))
  | 10 => slotAt o1 c fullShare (WO (prv (prv c)))
  | 11 => slotAt o2 c fullShare (WO (prv (prv (prv c))))

instance pay_storable (c : Dev nD) (k : Fin 12) : Storable (upEmb : UEmb _ 𝕄) (pay WQ WO c k) := by
  unfold pay; (repeat' split) <;> infer_instance

instance barPay_storable (c : Dev nD) : Storable (upEmb : UEmb _ 𝕄) (barPay (F := F) c) := by unfold barPay; infer_instance

/-- The transfer semaphore a number names, if it is one of the kernel's twelve. -/
def kOf (s : DmaSem sig) : Option (Fin 12) := if h : 6 ≤ s.val ∧ s.val < 18 then some ⟨s.val - 6, by omega⟩ else none

theorem kOf_osem (k : Fin 12) : kOf ((Fin.natAdd 6 k : Fin 18) : DmaSem sig) = some k := by revert k; decide

def dut (sm : SemLoc sig) : Finset Bool :=
  match sm with
  | .reg _ => Finset.univ
  | .dma s => match kOf s with
    | some _ => {true}
    | none => ∅

def rdAmt (sm : SemLoc sig) : ℕ :=
  match sm with
  | .reg _ => 1
  | .dma s => match kOf s with
    | some k => amt k
    | none => 1

def rdPay (c : Dev nD) (sm : SemLoc sig) (d : Bool) : sProp 𝕄 :=
  match sm with
  | .reg _ => if d = true then barPay c else iprop(emp)
  | .dma s => match kOf s with
    | some k => pay WQ WO c k
    | none => iprop(emp)

instance rdPay_storable (c : Dev nD) (sm : SemLoc sig) (d : Bool) : Storable (upEmb : UEmb _ 𝕄) (rdPay WQ WO c sm d) := by
  unfold rdPay; (repeat' split) <;> infer_instance

/-- The schedule: every cell has one round. A barrier's has two duties of a unit each (`true`: the next device's, `false`: the
    previous one's), a transfer semaphore's the one duty of its copy. -/
def rd : Rounds.Schedule (GSem nD τ sig) Bool 𝕄 where
  duties g r := if r = 0 ∧ g.1.2 = .tc then dut g.2 else ∅
  amount g _ _ := rdAmt g.2
  payload g _ d := rdPay WQ WO g.1.1 g.2 d
  amount_pos g r d _ := by
    show 0 < rdAmt g.2
    unfold rdAmt; (repeat' split)
    · exact Nat.one_pos
    · exact amt_pos _
    · exact Nat.one_pos

section Sched

instance rd_storable (g : GSem nD τ sig) (r : ℕ) (d : Bool) : Storable (upEmb : UEmb _ 𝕄) ((rd WQ WO).payload g r d) := by
  dsimp only [rd]; infer_instance

theorem duties_bar (c : Dev nD) : (rd WQ WO).duties (barCell c) 0 = Finset.univ := by dsimp only [rd]; exact if_pos ⟨rfl, rfl⟩
theorem duties_cell (c : Dev nD) (k : Fin 12) : (rd WQ WO).duties (cell c k) 0 = {true} := by
  dsimp only [rd]; rw [if_pos ⟨rfl, rfl⟩]; unfold dut; simp only [kOf_osem]
theorem duties_later (g : GSem nD τ sig) : ∀ r, 1 ≤ r → (rd WQ WO).duties g r = ∅ :=
  fun r hr => by dsimp only [rd]; exact if_neg fun h => by omega

theorem amount_bar (c : Dev nD) (d : Bool) : (rd WQ WO).amount (barCell c) 0 d = 1 := rfl
theorem amount_cell (c : Dev nD) (k : Fin 12) (d : Bool) : (rd WQ WO).amount (cell c k) 0 d = amt k := by
  dsimp only [rd]; unfold rdAmt; simp only [kOf_osem]

theorem expect_bar (c : Dev nD) : (rd WQ WO).expect (barCell c) 0 = 2 := by
  unfold Schedule.expect Schedule.amountOf; rw [duties_bar]; rfl
theorem expect_cell (c : Dev nD) (k : Fin 12) : (rd WQ WO).expect (cell c k) 0 = amt k := by
  unfold Schedule.expect Schedule.amountOf; rw [duties_cell, Finset.sum_singleton, amount_cell]

theorem payload_bar_true (c : Dev nD) : (rd WQ WO).payload (barCell c) 0 true = barPay c := by dsimp only [rd]; unfold rdPay; exact if_pos rfl
theorem payload_bar_false (c : Dev nD) : (rd WQ WO).payload (barCell c) 0 false = iprop(emp) := by
  dsimp only [rd]; unfold rdPay; exact if_neg (by decide)
theorem payload_cell (c : Dev nD) (k : Fin 12) : (rd WQ WO).payload (cell c k) 0 true = pay WQ WO c k := by
  dsimp only [rd]; unfold rdPay; simp only [kOf_osem]

theorem rest_bar (c : Dev nD) :
    bigSep ((rd WQ WO).duties (barCell c) 0 \ ∅) (fun d => (rd WQ WO).payload (barCell c) 0 d) ⊢ barPay c := by
  rw [Finset.sdiff_empty, duties_bar]
  refine (bigSep_elim (Finset.mem_univ true)).trans ?_
  rw [payload_bar_true]; exact Entails.refl _
theorem rest_cell (c : Dev nD) (k : Fin 12) :
    bigSep ((rd WQ WO).duties (cell c k) 0 \ ∅) (fun d => (rd WQ WO).payload (cell c k) 0 d) = pay WQ WO c k := by
  rw [Finset.sdiff_empty, duties_cell, bigSep_singleton, payload_cell]

end Sched

/-! ## What a device owes at launch, in the order it pays, and the levels -/

/-- The cells a device pays on its neighbours, the last first: the receives of the next device, hop by hop, before them
    the barrier of the next device and that of the previous one. -/
def payCell (c : Dev nD) : ℕ → GSem nD τ sig
  | 0 => cell (nxt c) 11
  | 1 => cell (nxt c) 5
  | 2 => cell (nxt c) 10
  | 3 => cell (nxt c) 4
  | 4 => cell (nxt c) 9
  | 5 => cell (nxt c) 3
  | 6 => barCell (nxt c)
  | _ => barCell (prv c)

def payAmt : ℕ → ℕ
  | 0 => amt 11
  | 1 => amt 5
  | 2 => amt 10
  | 3 => amt 4
  | 4 => amt 9
  | 5 => amt 3
  | _ => 1

/-- What device `c` owes when `n` payments are left. -/
def owe (c : Dev nD) : ℕ → CellTallies nD τ sig Unit
  | 0 => 0
  | n + 1 => owe c n + tallyAt (payCell c n) () (payAmt n)

def O₀ (c : Dev nD) : CellTallies nD τ sig Unit := owe c 8

def L (g : GSem nD τ sig) : Finset Unit := if g.1.2 = .tc then {()} else ∅

/-- Barriers at level 1, the receives of hop `t` at level `t + 2`, everything else at 0. -/
def semLv (sm : SemLoc sig) : ℕ :=
  match sm with
  | .reg _ => 1
  | .dma s => match kOf s with
    | some k => match k with
      | 3 => 2 | 9 => 2 | 4 => 3 | 10 => 3 | 5 => 4 | 11 => 4
      | _ => 0
    | none => 0

def lv (g : GSem nD τ sig) (_ : Unit) : ℕ := semLv g.2

/-- The level of payment `n`. -/
def payLv : ℕ → ℕ
  | 0 => 4 | 1 => 4 | 2 => 3 | 3 => 3 | 4 => 2 | 5 => 2 | _ => 1

theorem L_of_ne (g : GSem nD τ sig) (h : g.1.2 ≠ .tc) : L g = ∅ := if_neg h
theorem L_tc (c : Dev nD) (sm : SemLoc sig) : L ((c : Thread nD τ), sm) = {()} := if_pos rfl

theorem payCell_tc (c : Dev nD) (n : ℕ) : (payCell c n).1.2 = .tc := by
  match n with
  | 0 | 1 | 2 | 3 | 4 | 5 | 6 | _ + 7 => rfl

theorem payCell_lv (c : Dev nD) (n : ℕ) (u : Unit) : lv (payCell c n) u = payLv n := by
  match n with
  | 0 | 1 | 2 | 3 | 4 | 5 | 6 | _ + 7 => rfl

/-- What is still owed sits on cells named by some payment left. -/
theorem owe_pos (c : Dev nD) : ∀ (n : ℕ) (g : GSem nD τ sig) (u : Unit), 0 < owe c n g u → ∃ k, k < n ∧ g = payCell c k
  | 0, g, u, h => absurd h (Nat.lt_irrefl 0)
  | n + 1, g, u, h => by
    have h' : 0 < owe c n g u + tallyAt (payCell c n) () (payAmt n) g u := h
    rw [tallyAt_apply] at h'
    by_cases hg : g = payCell c n ∧ u = ()
    · exact ⟨n, Nat.lt_succ_self n, hg.1⟩
    · rw [if_neg hg, Nat.add_zero] at h'
      obtain ⟨k, hk, e⟩ := owe_pos c n g u h'
      exact ⟨k, Nat.lt_succ_of_lt hk, e⟩

/-- A device may wait on a semaphore whose level lies below those of the payments it still owes. -/
theorem mayWait (c : Dev nD) (sm : SemLoc sig) (n : ℕ) (h : ∀ k, k < n → semLv sm < payLv k) :
    (levAts L lv : sProp 𝕄) ⊢ MayWait (c : Thread nD τ) sm () (owe c n) :=
  MayOwe.of_cut (L := L) (lev := lv) (semLv sm) (fun p hp => by rw [Finset.mem_singleton.mp hp, L_tc]; exact Finset.mem_singleton_self _)
    (fun g u hg => by
      obtain ⟨k, -, rfl⟩ := owe_pos c n g u hg
      unfold L; rw [if_pos (payCell_tc c k)]; exact Finset.mem_singleton_self _)
    (fun p hp => by rw [Finset.mem_singleton.mp hp]; exact le_refl _)
    (fun g u hg => by
      obtain ⟨k, hk, rfl⟩ := owe_pos c n g u hg
      rw [payCell_lv]; exact h k hk)

/-- The owner of a cell past its one round closes it, and keeps its counter at zero. -/
theorem close (κ : ℕ) (g : GSem nD τ sig) :
    iprop(cellInv ER (rd WQ WO) κ g ∗ atPos ER g (0 + 1) ∅ 0) ⊢ (|={Set.univ}=> semVal g 0 : sProp 𝕄) :=
  Rounds.cell_close ER (rd WQ WO) (Set.mem_univ κ) id (duties_later WQ WO g)

/-- A conjunction over the twelve transfer semaphores, written out. -/
theorem bigSep_twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} from by decide]
  simp only [bigSep_insert, bigSep_singleton, Finset.mem_insert, Finset.mem_singleton, Fin.reduceEq, or_self, not_false_eq_true]
  rfl

end Cert.RingProof

end
-- ==== Proof.Value.lean ====
/-
  What one device's body computes, as a function of the blocks its windows hold and of the blocks of weights that reach
  it: for each of the four turns of the ring, the attention of a group of heads (batch 0 and batch 1), its projection
  through a block of the output weights, and the running sum of the projections.
-/
module

public import proofs.«01_k».proof.Proof.Schedule
public import Idealize.ShloMosaic.Lib.ValueIdx

@[expose] public section

noncomputable section

namespace Cert.RingProof

open Cert.KernelIdeal Cert.KernelIdeal.Gen

open Idealize.ShloMosaic
open Idealize.ShloMosaic.TcCoe
open Idealize.ShloMosaic.ValueIdx

variable {F : FTy → Type} [FloatOps F]

/-! ## The windows' staged blocks -/

abbrev xIn : Memref sig .tc .vmem S2x512x768 .bf16 := Memref.whole cc0_stg0_0
abbrev kIn : Memref sig .tc .vmem S4x2x8x512x64 .bf16 := Memref.whole cc0_stg2_0
abbrev vIn : Memref sig .tc .vmem S4x2x8x512x64 .bf16 := Memref.whole cc0_stg3_0
abbrev outM : Memref sig .tc .vmem S2x512x768 .f32 := Memref.whole cc0_stg5_0

/-! ## The rectangles the body reads and writes -/

abbrev xr0 : Rect S2x512x768 := Rect.unit (s := S2x512x768) ![0, 0, 0] S1x512x768.size inb_S2x512x768_S1x512x768_0_0_0
abbrev xr1 : Rect S2x512x768 := Rect.unit (s := S2x512x768) ![1, 0, 0] S1x512x768.size inb_S2x512x768_S1x512x768_1_0_0
abbrev qr : Rect S768x512 := Rect.unit (s := S768x512) ![0, 0] S768x512.size inb_S768x512_S768x512_0_0
abbrev owr : Rect S512x768 := Rect.unit (s := S512x768) ![0, 0] S512x768.size inb_S512x768_S512x768_0_0
abbrev qr0 : Rect S3x768x512 := Rect.unit (s := S3x768x512) ![0, 0, 0] S1x768x512.size inb_S3x768x512_S1x768x512_0_0_0
abbrev qr1 : Rect S3x768x512 := Rect.unit (s := S3x768x512) ![1, 0, 0] S1x768x512.size inb_S3x768x512_S1x768x512_1_0_0
abbrev qr2 : Rect S3x768x512 := Rect.unit (s := S3x768x512) ![2, 0, 0] S1x768x512.size inb_S3x768x512_S1x768x512_2_0_0
abbrev or0 : Rect S3x512x768 := Rect.unit (s := S3x512x768) ![0, 0, 0] S1x512x768.size inb_S3x512x768_S1x512x768_0_0_0
abbrev or1 : Rect S3x512x768 := Rect.unit (s := S3x512x768) ![1, 0, 0] S1x512x768.size inb_S3x512x768_S1x512x768_1_0_0
abbrev or2 : Rect S3x512x768 := Rect.unit (s := S3x512x768) ![2, 0, 0] S1x512x768.size inb_S3x512x768_S1x512x768_2_0_0

/-- Group `t`'s rectangle of the keys and values, batch 0 and batch 1. -/
abbrev kr0 (c : Dev nD) (t : Fin 4) : Rect S4x2x8x512x64 :=
  Rect.unit (s := S4x2x8x512x64) (k0_off1 c (BitVec.ofNat 32 t.val)) S1x1x8x512x64.size (k0_off1_inb c t)
abbrev kr1 (c : Dev nD) (t : Fin 4) : Rect S4x2x8x512x64 :=
  Rect.unit (s := S4x2x8x512x64) (k0_off2 c (BitVec.ofNat 32 t.val)) S1x1x8x512x64.size (k0_off2_inb c t)

/-! ## What the loads read -/

variable (c : Dev nD) (X : S2x512x768.Idx → Elt F .bf16) (Kb Vb : S4x2x8x512x64.Idx → Elt F .bf16)
  (Wq : Fin 4 → S768x512.Idx → Elt F .bf16) (Wo : Fin 4 → S512x768.Idx → Elt F .bf16)

def ldX0 : Vec F S1x512x768 .bf16 := xIn.view.readAt (Elt F) xr0.toLoadRect X
def ldX1 : Vec F S1x512x768 .bf16 := xIn.view.readAt (Elt F) xr1.toLoadRect X
def ldK0 (t : Fin 4) : Vec F S1x1x8x512x64 .bf16 := kIn.view.readAt (Elt F) (kr0 c t).toLoadRect Kb
def ldK1 (t : Fin 4) : Vec F S1x1x8x512x64 .bf16 := kIn.view.readAt (Elt F) (kr1 c t).toLoadRect Kb
def ldV0 (t : Fin 4) : Vec F S1x1x8x512x64 .bf16 := vIn.view.readAt (Elt F) (kr0 c t).toLoadRect Vb
def ldV1 (t : Fin 4) : Vec F S1x1x8x512x64 .bf16 := vIn.view.readAt (Elt F) (kr1 c t).toLoadRect Vb

/-- The device's own weights, read whole. -/
def ldQ (W : S768x512.Idx → Elt F .bf16) : Vec F S768x512 .bf16 := qIn.view.readAt (Elt F) qr.toLoadRect W
def ldO (W : S512x768.Idx → Elt F .bf16) : Vec F S512x768 .bf16 := oIn.view.readAt (Elt F) owr.toLoadRect W

/-- A slot of a landing buffer that holds a block, read as a block of one row. -/
def ldQ0 (W : S768x512.Idx → Elt F .bf16) : Vec F S1x768x512 .bf16 :=
  qBuf.view.readAt (Elt F) qr0.toLoadRect (q0.view.write (Elt F) (Classical.arbitrary _) W Finset.univ)
def ldQ1 (W : S768x512.Idx → Elt F .bf16) : Vec F S1x768x512 .bf16 :=
  qBuf.view.readAt (Elt F) qr1.toLoadRect (q1.view.write (Elt F) (Classical.arbitrary _) W Finset.univ)
def ldQ2 (W : S768x512.Idx → Elt F .bf16) : Vec F S1x768x512 .bf16 :=
  qBuf.view.readAt (Elt F) qr2.toLoadRect (q2.view.write (Elt F) (Classical.arbitrary _) W Finset.univ)
def ldO0 (W : S512x768.Idx → Elt F .bf16) : Vec F S1x512x768 .bf16 :=
  oBuf.view.readAt (Elt F) or0.toLoadRect (o0.view.write (Elt F) (Classical.arbitrary _) W Finset.univ)
def ldO1 (W : S512x768.Idx → Elt F .bf16) : Vec F S1x512x768 .bf16 :=
  oBuf.view.readAt (Elt F) or1.toLoadRect (o1.view.write (Elt F) (Classical.arbitrary _) W Finset.univ)
def ldO2 (W : S512x768.Idx → Elt F .bf16) : Vec F S1x512x768 .bf16 :=
  oBuf.view.readAt (Elt F) or2.toLoadRect (o2.view.write (Elt F) (Classical.arbitrary _) W Finset.univ)

/-! ## The four turns -/

/-- The block-sparse mask: which key positions a query position attends to. -/
def msk : IVec S512x512 1 := k0_pay5 (k0_pay3 k0_pay1 k0_pay2) k0_pay4 4#32 0#32

/-- The heads' attention, turn by turn, of batch 0 and of batch 1. -/
def ctx00 : FVec F S512x512 .bf16 := k0_pay7 msk (k0_pay6 (ldQ (Wq 0))) (ldX0 X) (ldK0 c Kb 0) (ldV0 c Vb 0)
def ctx10 : FVec F S512x512 .bf16 := k0_pay14 msk (k0_pay13 (ldQ0 (Wq 1)) (ldX0 X)) (ldK0 c Kb 1) (ldV0 c Vb 1)
def ctx11 : FVec F S512x512 .bf16 :=
  k0_pay17 msk (k0_pay15 (k0_pay12 (ldQ0 (Wq 1))) (ldX1 X)) (k0_pay16 (ldK1 c Kb 1)) (ldV1 c Vb 1)
def ctx20 : FVec F S512x512 .bf16 :=
  k0_pay25 (k0_pay22 (ldV0 c Vb 2)) (k0_pay23 (ldQ1 (Wq 2)) (ldX0 X) (ldK0 c Kb 2)) (k0_pay24 msk)
def ctx21 : FVec F S512x512 .bf16 :=
  k0_pay28 (k0_pay26 (ldV1 c Vb 2)) (k0_pay27 msk (k0_pay21 (ldQ1 (Wq 2))) (ldX1 X) (ldK1 c Kb 2)) (constant S8x512x64 .f32 0x00000000#32)
def ctx30 : FVec F S512x512 .bf16 := k0_pay35 msk (k0_pay34 (ldQ2 (Wq 3)) (ldX0 X)) (ldK0 c Kb 3) (ldV0 c Vb 3)
def ctx31 : FVec F S512x512 .bf16 :=
  k0_pay39 msk (k0_pay36 (k0_pay33 (ldQ2 (Wq 3))) (ldX1 X)) (k0_pay37 (ldK1 c Kb 3)) (k0_pay38 (ldV1 c Vb 3))

/-- The running sums of the projections, of batch 0 and of batch 1. -/
def acc00 : FVec F S1x512x768 .f32 := k0_pay10 (ctx00 c X Kb Vb Wq) (ldO (Wo 0))
def acc01 : FVec F S1x512x768 .f32 :=
  k0_pay11 msk (k0_pay8 (k0_pay6 (ldQ (Wq 0))) (ldX1 X)) (ldK1 c Kb 0) (ldV1 c Vb 0) (ldO (Wo 0))
def acc10 : FVec F S1x512x768 .f32 := k0_pay19 (ctx10 c X Kb Vb Wq) (ldO0 (Wo 1)) (acc00 c X Kb Vb Wq Wo)
def acc11 : FVec F S1x512x768 .f32 := k0_pay20 (ctx11 c X Kb Vb Wq) (ldO0 (Wo 1)) (acc01 c X Kb Vb Wq Wo)
def acc20 : FVec F S1x512x768 .f32 := k0_pay31 (k0_pay30 (ctx20 c X Kb Vb Wq) (ldO1 (Wo 2)) (acc10 c X Kb Vb Wq Wo))
def acc21 : FVec F S1x512x768 .f32 := k0_pay32 (ctx21 c X Kb Vb Wq) (k0_pay29 (ldO1 (Wo 2))) (acc11 c X Kb Vb Wq Wo)
def acc30 : FVec F S1x512x768 .f32 := k0_pay42 (k0_pay41 (ctx30 c X Kb Vb Wq) (ldO2 (Wo 3)) (acc20 c X Kb Vb Wq Wo))
def acc31 : FVec F S1x512x768 .f32 := k0_pay43 (ctx31 c X Kb Vb Wq) (k0_pay40 (ldO2 (Wo 3))) (acc21 c X Kb Vb Wq Wo)

/-! ## The output block: its two batches side by side -/

/-- An output block from its two batches. -/
def glue (p q : Vec F S1x512x768 .f32) : S2x512x768.Idx → Elt F .f32 := fun i =>
  if (i 0).val = 0 then p (ix3 (0 : Fin 1) (i 1) (i 2)) else q (ix3 (0 : Fin 1) (i 1) (i 2))

/-- What the body leaves in its output block. -/
def result : S2x512x768.Idx → Elt F .f32 := glue (acc30 c X Kb Vb Wq Wo) (acc31 c X Kb Vb Wq Wo)

end Cert.RingProof

end
-- ==== Proof.Steps.lean ====
/-
  The steps of the body, one lemma for each kind: the reads of a landing slot and of the output block, the stores to the
  output block, a hop of a block of weights to the next device, and the wait for a transfer.
-/
module

public import proofs.«01_k».proof.Proof.Value

@[expose] public section

noncomputable section

namespace Cert.RingProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What device `c`'s program `p` needs to run to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes its last `n` payments. -/
def owing (c : Dev nD) (n : ℕ) : sProp 𝕄 := iprop(∃ W, owes (c : Thread nD τ) (owe c n) W)

/-! ## The output block -/

theorem emb_xr0 (x : S1x512x768.Idx) : xr0.emb x = ix3 (0 : Fin 2) (x 1) (x 2) := by
  funext a; apply Fin.ext; match a with
  | 0 => have h0 : x 0 = (0 : Fin 1) := Fin.fin_one_eq_zero _
         show 0 + 1 * (x 0).val = 0; rw [h0]; rfl
  | 1 => show 0 + 1 * (x 1).val = (x 1).val; omega
  | 2 => show 0 + 1 * (x 2).val = (x 2).val; omega
theorem emb_xr1 (x : S1x512x768.Idx) : xr1.emb x = ix3 (1 : Fin 2) (x 1) (x 2) := by
  funext a; apply Fin.ext; match a with
  | 0 => have h0 : x 0 = (0 : Fin 1) := Fin.fin_one_eq_zero _
         show 1 + 1 * (x 0).val = 1; rw [h0]; rfl
  | 1 => show 0 + 1 * (x 1).val = (x 1).val; omega
  | 2 => show 0 + 1 * (x 2).val = (x 2).val; omega

theorem ix3_eta (x : S1x512x768.Idx) : (ix3 (0 : Fin 1) (x 1) (x 2) : S1x512x768.Idx) = x := by
  funext a; match a with
  | 0 => exact (Fin.fin_one_eq_zero _).symm
  | 1 => rfl
  | 2 => rfl

/-- Reading batch 0 or batch 1 of an output block. -/
theorem read_glue0 (p q : Vec F S1x512x768 .f32) : outM.view.readAt (Elt F) xr0.toLoadRect (glue p q) = p := by
  funext x
  show glue p q (xr0.emb x) = p x
  rw [emb_xr0]; exact congrArg p (ix3_eta x)
theorem read_glue1 (p q : Vec F S1x512x768 .f32) : outM.view.readAt (Elt F) xr1.toLoadRect (glue p q) = q := by
  funext x
  show glue p q (xr1.emb x) = q x
  rw [emb_xr1]; exact congrArg q (ix3_eta x)

theorem idx_cases (i : S2x512x768.Idx) : (∃ x, i = xr0.emb x) ∨ (∃ x, i = xr1.emb x) := by
  by_cases h : (i 0).val = 0
  · left; refine ⟨ix3 (0 : Fin 1) (i 1) (i 2), ?_⟩
    rw [emb_xr0]; funext a; match a with
    | 0 => exact Fin.ext h
    | 1 => rfl
    | 2 => rfl
  · right; refine ⟨ix3 (0 : Fin 1) (i 1) (i 2), ?_⟩
    rw [emb_xr1]; funext a; match a with
    | 0 => have h2 : (i 0).val < 2 := (i 0).isLt
           exact Fin.ext (by show (i 0).val = 1; omega)
    | 1 => rfl
    | 2 => rfl

/-- Any contents of the output block are its two batches side by side. -/
theorem glue_reads (f : S2x512x768.Idx → Elt F .f32) :
    glue (outM.view.readAt (Elt F) xr0.toLoadRect f) (outM.view.readAt (Elt F) xr1.toLoadRect f) = f := by
  funext i
  rcases idx_cases i with ⟨x, rfl⟩ | ⟨x, rfl⟩
  · exact congrFun (read_glue0 (outM.view.readAt (Elt F) xr0.toLoadRect f) (outM.view.readAt (Elt F) xr1.toLoadRect f)) x
  · exact congrFun (read_glue1 (outM.view.readAt (Elt F) xr0.toLoadRect f) (outM.view.readAt (Elt F) xr1.toLoadRect f)) x

/-- A store to batch 0, or to batch 1, replaces it and leaves the other. -/
theorem write_glue0 (p q w : Vec F S1x512x768 .f32) :
    (outM.access xr0).write (Elt F) (glue p q) w Finset.univ = glue w q := by
  rw [← glue_reads ((outM.access xr0).write (Elt F) (glue p q) w Finset.univ)]
  congr 1
  · exact View.read_write_univ (v := outM.access xr0) _ _
  · funext x
    rw [show outM.view.readAt (Elt F) xr1.toLoadRect ((outM.access xr0).write (Elt F) (glue p q) w Finset.univ) x
        = (outM.access xr0).write (Elt F) (glue p q) w Finset.univ (xr1.emb x) from rfl, View.write_of_not_mem]
    · exact congrFun (read_glue1 p q) x
    · rw [View.setOn_univ]
      intro h
      obtain ⟨y, -, hy⟩ := Finset.mem_map.mp h
      have h' : xr0.emb y = xr1.emb x := hy
      rw [emb_xr0, emb_xr1] at h'
      exact absurd (congrFun h' 0) (by show ¬((0 : Fin 2) = 1); decide)
theorem write_glue1 (p q w : Vec F S1x512x768 .f32) :
    (outM.access xr1).write (Elt F) (glue p q) w Finset.univ = glue p w := by
  rw [← glue_reads ((outM.access xr1).write (Elt F) (glue p q) w Finset.univ)]
  congr 1
  · funext x
    rw [show outM.view.readAt (Elt F) xr0.toLoadRect ((outM.access xr1).write (Elt F) (glue p q) w Finset.univ) x
        = (outM.access xr1).write (Elt F) (glue p q) w Finset.univ (xr0.emb x) from rfl, View.write_of_not_mem]
    · exact congrFun (read_glue0 p q) x
    · rw [View.setOn_univ]
      intro h
      obtain ⟨y, -, hy⟩ := Finset.mem_map.mp h
      have h' : xr1.emb y = xr0.emb x := hy
      rw [emb_xr0, emb_xr1] at h'
      exact absurd (congrFun h' 0) (by show ¬((1 : Fin 2) = 0); decide)
  · exact View.read_write_univ (v := outM.access xr1) _ _

/-- Device `c` owns its output block, batches `p` and `q`. -/
def outAt (c : Dev nD) (p q : Vec F S1x512x768 .f32) : sProp 𝕄 :=
  (outM.view.loc (c : Thread nD τ)) ↦[Finset.univ]{fullShare} (glue p q)

section Ops
variable (c : Dev nD) {α : Type}

/-- Reading a window's block. -/
theorem ld_win {Q : α → sProp 𝕄} {s : Shape} {e : EltTy} (m : Memref sig .tc .vmem s e) {r : LoadRect s} {hl : m.view.LoadsAt r}
    {k : (r.shape.Idx → Elt F e) → Prog (TpuEff nD τ sig (Elt F) Λ₀ .tc) α} {q : PosShare TreeShare} {f : Buf (Elt F) (m.view.loc (c : Thread nD τ))} :
    ((m.view.loc (c : Thread nD τ)) ↦[Finset.univ]{q} f)
      ⊢ iprop((((m.view.loc (c : Thread nD τ)) ↦[Finset.univ]{q} f) -∗ run c (k (m.view.readAt (Elt F) r f)) Q) -∗ run c (.op (.load m r hl) k) Q) :=
  wp_load 𝒱₀ (c : Thread nD τ) none Set.univ (m := m) (Finset.subset_univ _)

/-- Reading batch 0, or batch 1, of the output block. -/
theorem ld_out0 {Q : α → sProp 𝕄} (p q : Vec F S1x512x768 .f32) {hl : outM.view.LoadsAt xr0.toLoadRect} {k : Vec F S1x512x768 .f32 → Prog (TpuEff nD τ sig (Elt F) Λ₀ .tc) α} :
    outAt c p q ⊢ iprop((outAt c p q -∗ run c (k p) Q) -∗ run c (.op (.load outM xr0.toLoadRect hl) k) Q) := by
  have h := ld_win (Q := Q) c outM (r := xr0.toLoadRect) (hl := hl) (k := k) (q := fullShare) (f := glue p q)
  rw [read_glue0] at h; exact h
theorem ld_out1 {Q : α → sProp 𝕄} (p q : Vec F S1x512x768 .f32) {hl : outM.view.LoadsAt xr1.toLoadRect} {k : Vec F S1x512x768 .f32 → Prog (TpuEff nD τ sig (Elt F) Λ₀ .tc) α} :
    outAt c p q ⊢ iprop((outAt c p q -∗ run c (k q) Q) -∗ run c (.op (.load outM xr1.toLoadRect hl) k) Q) := by
  have h := ld_win (Q := Q) c outM (r := xr1.toLoadRect) (hl := hl) (k := k) (q := fullShare) (f := glue p q)
  rw [read_glue1] at h; exact h

/-- Writing a rectangle of the output block. -/
theorem st_win {Q : α → sProp 𝕄} {r : Rect S2x512x768} {w : r.shape.Idx → Elt F .f32} {hx : (outM.access r).Stores Finset.univ}
    {hm : Finset.univ = Finset.univ ∨ ∀ a, r.stride a = 1} {k : PUnit → Prog (TpuEff nD τ sig (Elt F) Λ₀ .tc) α} {f : Buf (Elt F) ((outM.access r).loc (c : Thread nD τ))} :
    (((outM.access r).loc (c : Thread nD τ)) ↦[Finset.univ]{fullShare} f)
      ⊢ iprop(((((outM.access r).loc (c : Thread nD τ)) ↦[Finset.univ]{fullShare} ((outM.access r).write (Elt F) f w Finset.univ)) -∗ run c (k ⟨⟩) Q)
          -∗ run c (.op (.store outM r w Finset.univ hx hm) k) Q) :=
  wp_store 𝒱₀ (c : Thread nD τ) none Set.univ (Finset.subset_univ _)

/-- Storing batch 0, or batch 1, of the output block. -/
theorem st_out0 {Q : α → sProp 𝕄} (p q w : Vec F S1x512x768 .f32) {hx : (outM.access xr0).Stores Finset.univ} {hm : Finset.univ = Finset.univ ∨ ∀ a, xr0.stride a = 1}
    {k : PUnit → Prog (TpuEff nD τ sig (Elt F) Λ₀ .tc) α} :
    outAt c p q ⊢ iprop((outAt c w q -∗ run c (k ⟨⟩) Q) -∗ run c (.op (.store outM xr0 w Finset.univ hx hm) k) Q) := by
  have h := st_win (Q := Q) c (r := xr0) (w := w) (hx := hx) (hm := hm) (k := k) (f := glue p q)
  rw [write_glue0] at h; exact h
theorem st_out1 {Q : α → sProp 𝕄} (p q w : Vec F S1x512x768 .f32) {hx : (outM.access xr1).Stores Finset.univ} {hm : Finset.univ = Finset.univ ∨ ∀ a, xr1.stride a = 1}
    {k : PUnit → Prog (TpuEff nD τ sig (Elt F) Λ₀ .tc) α} :
    outAt c p q ⊢ iprop((outAt c p w -∗ run c (k ⟨⟩) Q) -∗ run c (.op (.store outM xr1 w Finset.univ hx hm) k) Q) := by
  have h := st_win (Q := Q) c (r := xr1) (w := w) (hx := hx) (hm := hm) (k := k) (f := glue p q)
  rw [write_glue1] at h; exact h

/-- Reading a slot, as a block of one row of its buffer. -/
theorem ld_slot {Q : α → sProp 𝕄} {s s' : Shape} (b : Memref sig .tc .vmem s .bf16) (r : Rect s) (hr : ∀ a, r.stride a = 1) (hq : r.shape.Squeezes s')
    {hl : b.view.LoadsAt r.toLoadRect} {k : (r.shape.Idx → Elt F .bf16) → Prog (TpuEff nD τ sig (Elt F) Λ₀ .tc) α} (q : PosShare TreeShare) (X : s'.Idx → Elt F .bf16) :
    slotAt ((b.slice r hr).squeeze s' hq) c q X
      ⊢ iprop((slotAt ((b.slice r hr).squeeze s' hq) c q X
          -∗ run c (k (b.view.readAt (Elt F) r.toLoadRect (((b.slice r hr).squeeze s' hq).view.write (Elt F) (Classical.arbitrary _) X Finset.univ))) Q)
        -∗ run c (.op (.load b r.toLoadRect hl) k) Q) :=
  wp_load 𝒱₀ (c : Thread nD τ) none Set.univ (m := b) (by
    rw [Memref.set_view_squeeze]
    exact Finset.Subset.antisymm_iff.mp (View.set_slice b.view r) |>.2)

end Ops

/-! ## Hops and waits -/

variable (WQ : Dev nD → S768x512.Idx → Elt F .bf16) (WO : Dev nD → S512x768.Idx → Elt F .bf16)

/-- What device `c` needs for the hop whose send semaphore is number `k₁` of its own and whose receive semaphore is number `k₂` of the next device. -/
def sendKit (c : Dev nD) (k₁ k₂ : Fin 12) : sProp 𝕄 :=
  iprop(∃ κ₁ κ₂, cellInv ER (rd WQ WO) κ₁ (cell c k₁) ∗ cellInv ER (rd WQ WO) κ₂ (cell (nxt c) k₂)
    ∗ dutyTok ER (cell c k₁) 0 true ∗ reached ER (cell c k₁) 0 ∗ dutyTok ER (cell (nxt c) k₂) 0 true ∗ atPos ER (cell c k₁) 0 ∅ 0)

/-- What device `c` needs to wait on its transfer semaphore `k`. -/
def waitKit (c : Dev nD) (k : Fin 12) : sProp 𝕄 :=
  iprop(∃ κ, cellInv ER (rd WQ WO) κ (cell c k) ∗ cred (tallyAt (cell c k) () (amt k)) ∗ atPos ER (cell c k) 0 ∅ 0)

section Hop
variable (c : Dev nD) {α : Type}

/-- A hop: device `c` copies the block in `src` onto a slot of the next device. It pays the next device's receive with the slot
    rewritten and its own send with half the share of the source; it may then wait on its send. -/
theorem hop {Q : α → sProp 𝕄} {s : Shape} (src dst : Memref sig .tc .vmem s .bf16) (k₁ k₂ : Fin 12) (j : ℕ) (X : s.Idx → Elt F .bf16)
    (fs : Buf (Elt F) (src.view.loc (c : Thread nD τ))) (hX : src.view.read (Elt F) fs = X)
    (hamt₁ : dst.view.dmaCredit = amt k₁) (hamt₂ : dst.view.dmaCredit = amt k₂)
    (hj : owe c (j + 1) = owe c j + tallyAt (cell (nxt c) k₂) () (amt k₂))
    (hp₁ : ((src.view.loc (c : Thread nD τ)) ↦[src.view.set]{fullShare.left} fs) ⊢ pay WQ WO c k₁)
    (hp₂ : slotAt dst (nxt c) fullShare X ⊢ pay WQ WO (nxt c) k₂)
    (n : Dev nD) (hn : n = nxt c)
    {sS sR : DmaSem sig} (hS : sS = (Fin.natAdd 6 k₁ : Fin 18)) (hR : sR = (Fin.natAdd 6 k₂ : Fin 18))
    {hsc : (dst : Memref sig (Dev.tc n : Thread nD τ).2.kind .vmem s .bf16).view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} :
    iprop(sendKit WQ WO c k₁ k₂ ∗ ((src.view.loc (c : Thread nD τ)) ↦[src.view.set]{fullShare.left} fs) ∗ slotAny dst (nxt c)
        ∗ reached ER (cell (nxt c) k₂) 0 ∗ owing c (j + 1))
      ⊢ iprop(((waitKit WQ WO c k₁ ∗ owing c j) -∗ run c (k ⟨⟩) Q)
          -∗ run c (.op (.enqueueDma src (.remote (Dev.tc n : Thread nD τ) dst (.dma sS) hsc) (.dma sR) hsrc hdst hsem) k) Q) := by
  subst hn hS hR
  unfold sendKit owing slotAny
  iintro ⟨⟨%κ₁, %κ₂, #HI₁, #HI₂, Ht₁, #Hr₁, Ht₂, Hat⟩, Hs, ⟨%fd, Hd⟩, #Hr₂, ⟨%W, HO⟩⟩ Hk
  iapply (Rounds.wp_send_pointsTo 𝒱₀ ER (rd WQ WO) (c : Thread nD τ) none (c' := (nxt c : Thread nD τ)) (κ₁ := κ₁) (κ₂ := κ₂)
    (src := src) (dst := dst) (sS := osem k₁) (sem := osem k₂) (q := fullShare.left) (fs := fs)
    (r₁ := 0) (r₂ := 0) (d₁ := true) (d₂ := true) (fd := fd)
    (by rw [duties_cell]; exact Finset.mem_singleton_self _) (by rw [duties_cell]; exact Finset.mem_singleton_self _)
    () () (amt k₂) hamt₂ ((amount_cell WQ WO c k₁ true).trans (hamt₁.symm.trans hamt₂)) (amount_cell WQ WO (nxt c) k₂ true) (owe c j) hj (W := W)
    (by rw [payload_cell]; exact hp₁)
    (by rw [payload_cell, hX]; exact (slotAt_of_write dst (nxt c) fd X).trans hp₂)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitr [HO]
  · unfold waitKit
    iexists κ₁
    isplitr; · iexact HI₁
    isplitl [Hc]; · rw [← hamt₁, hamt₂]; iexact Hc
    iexact Hat
  · iexists W; iexact HO

/-- A wait for a transfer: its payload comes with it, and the semaphore, which nothing will raise again, is kept at zero. -/
theorem wait {Q : α → sProp 𝕄} {s s' : Shape} (src : Memref sig .tc .vmem s .bf16) (dst : Memref sig .tc .vmem s' .bf16) (k : Fin 12) (j : ℕ)
    (hamt : dst.view.dmaCredit = amt k) (hlv : ∀ i, i < j → semLv (osem k) < payLv i)
    {sm : DmaSem sig} (hS : sm = (Fin.natAdd 6 k : Fin 18))
    {hsrc : src.view.WordExact} {hdst : dst.view.WordExact}
    {K : PUnit → Prog (TpuEff nD τ sig (Elt F) Λ₀ .tc) α} :
    iprop(waitKit WQ WO c k ∗ levAts L lv ∗ owing c j)
      ⊢ iprop(((semVal (cell c k) 0 ∗ pay WQ WO c k ∗ owing c j) -∗ run c (K ⟨⟩) Q)
          -∗ run c (.op (.waitDma2 sm src dst hsrc hdst) K) Q) := by
  subst hS
  unfold waitKit owing
  iintro ⟨⟨%κ, #HI, Hc, Hat⟩, #Hlev, ⟨%W, HO⟩⟩ Hk
  iapply (Rounds.wp_wait_rest_token 𝒱₀ ER (rd WQ WO) (c : Thread nD τ) none (κ := κ)
      (wpE_waitDma2_eq 𝒱₀ (c : Thread nD τ) none Set.univ) (Set.mem_univ _) () (O := owe c j) (W := W) (R := 0) (m := 0) (T := ∅)
      (by rw [Nat.zero_add, expect_cell]; exact hamt)) $$ [Hc HO Hat]
  · isplitr; · iexact HI
    isplitl [Hc]; · rw [hamt]; iexact Hc
    isplitl [HO]; · iexact HO
    isplitr; · iapply (mayWait c (osem k) j hlv); iexact Hlev
    iexact Hat
  iintro ⟨HO, Hat, -, Hpay⟩
  ihave Hp := (Entails.of_eq (rest_cell WQ WO c k)) $$ Hpay
  imod (close WQ WO κ (cell c k)) $$ [Hat] with Hz
  · isplitr; · iexact HI
    iexact Hat
  iapply Hk
  isplitl [Hz]; · iexact Hz
  isplitl [Hp]; · iexact Hp
  iexists _; iexact HO

end Hop

end Cert.RingProof

end
-- ==== Proof.Meet.lean ====
/-
  The barrier at the start of the body, the slots as halves, and the hop of a block out of a slot.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Halves -/

/-- A slot at the full share is its two halves. -/
theorem slot_halves {s : Shape} (v : Memref sig .tc .vmem s .bf16) (c : Dev nD) (X : s.Idx → Elt F .bf16) :
    (slotAt v c fullShare X : sProp 𝕄) ⊣⊢ iprop(slotAt v c fullShare.left X ∗ slotAt v c fullShare.right X) := by
  unfold slotAt
  exact pointsTo_share (PosShare.mem_left_op_right fullShare)

/-- A slot that holds a block is a slot. -/
theorem slotAny_of_slotAt {s : Shape} (v : Memref sig .tc .vmem s .bf16) (c : Dev nD) (X : s.Idx → Elt F .bf16) :
    (slotAt v c fullShare X : sProp 𝕄) ⊢ slotAny v c := by
  unfold slotAt slotAny
  iintro H; iexists _; iexact H

/-- The two halves of a slot make a slot. -/
theorem slotAny_of_halves {s : Shape} (v : Memref sig .tc .vmem s .bf16) (c : Dev nD) (X : s.Idx → Elt F .bf16) :
    (iprop(slotAt v c fullShare.left X ∗ slotAt v c fullShare.right X) : sProp 𝕄) ⊢ slotAny v c :=
  (slot_halves v c X).2.trans (slotAny_of_slotAt v c X)

/-- A window's whole block is its two halves. -/
theorem win_halves {s : Shape} (v : Memref sig .tc .vmem s .bf16) (c : Dev nD) (f : Buf (Elt F) (v.view.loc (c : Thread nD τ))) :
    (((v.view.loc (c : Thread nD τ)) ↦[Finset.univ]{fullShare} f) : sProp 𝕄)
      ⊣⊢ iprop(((v.view.loc (c : Thread nD τ)) ↦[Finset.univ]{fullShare.left} f) ∗ ((v.view.loc (c : Thread nD τ)) ↦[Finset.univ]{fullShare.right} f)) :=
  pointsTo_share (PosShare.mem_left_op_right fullShare)

/-! ## The barrier -/

variable (WQ : Dev nD → S768x512.Idx → Elt F .bf16) (WO : Dev nD → S512x768.Idx → Elt F .bf16)

/-- What device `c` needs for the barrier: the invariants of its own and its neighbours' barriers, the duty it has on each
    neighbour's, and its own wait. -/
def barKit (c : Dev nD) : sProp 𝕄 :=
  iprop(∃ κ κp κn, cellInv ER (rd WQ WO) κ (barCell c) ∗ cellInv ER (rd WQ WO) κp (barCell (prv c)) ∗ cellInv ER (rd WQ WO) κn (barCell (nxt c))
    ∗ dutyTok ER (barCell (prv c)) 0 true ∗ reached ER (barCell (prv c)) 0
    ∗ dutyTok ER (barCell (nxt c)) 0 false ∗ reached ER (barCell (nxt c)) 0
    ∗ cred (tallyAt (barCell c) () 2) ∗ atPos ER (barCell c) 0 ∅ 0)

/-- The six landing slots of a device, whatever they hold. -/
def slots (c : Dev nD) : sProp 𝕄 :=
  iprop(slotAny q0 c ∗ slotAny o0 c ∗ slotAny q1 c ∗ slotAny o1 c ∗ slotAny q2 c ∗ slotAny o2 c)

/-- The six receive cells of a device are open. -/
def opened (c : Dev nD) : sProp 𝕄 :=
  iprop(reached ER (cell c 3) 0 ∗ reached ER (cell c 9) 0 ∗ reached ER (cell c 4) 0 ∗ reached ER (cell c 10) 0
        ∗ reached ER (cell c 5) 0 ∗ reached ER (cell c 11) 0)

theorem slots_eq (c : Dev nD) :
    (slots c : sProp 𝕄) = iprop(slotAny q0 c ∗ slotAny o0 c ∗ slotAny q1 c ∗ slotAny o1 c ∗ slotAny q2 c ∗ slotAny o2 c) := rfl
theorem opened_eq (c : Dev nD) : (opened c : sProp 𝕄)
    = iprop(reached ER (cell c 3) 0 ∗ reached ER (cell c 9) 0 ∗ reached ER (cell c 4) 0 ∗ reached ER (cell c 10) 0
        ∗ reached ER (cell c 5) 0 ∗ reached ER (cell c 11) 0) := rfl

theorem barPay_eq (c : Dev nD) : (barPay c : sProp 𝕄) = iprop(slots (nxt c) ∗ opened (nxt c)) := rfl
theorem barPay_prv (c : Dev nD) : (barPay (prv c) : sProp 𝕄) = iprop(slots c ∗ opened c) := by rw [barPay_eq, nxt_prv]

section
variable (c : Dev nD) {α : Type}

/-- The barrier: device `c` hands its landing slots to the previous device, tells the next one it has arrived, and waits for both;
    it comes away with the landing slots of the next device. -/
theorem meet {Q : α → sProp 𝕄} (n₁ n₂ : Dev nD) (h₁ : n₁ = prv c) (h₂ : n₂ = nxt c)
    {K : PUnit → Prog (TpuEff nD τ sig (Elt F) Λ₀ .tc) α} :
    iprop(barKit WQ WO c ∗ slots c ∗ opened c ∗ levAts L lv ∗ owing c 8)
      ⊢ iprop(((semVal (barCell c) 0 ∗ slots (nxt c) ∗ opened (nxt c) ∗ owing c 6) -∗ run c (K ⟨⟩) Q)
          -∗ run c (.op (.semSignal (n₁, Proc.tc) barS (1#32).toInt) fun _ => .op (.semSignal (n₂, Proc.tc) barS (1#32).toInt) fun _ =>
              .op (.semWait barS (2#32).toInt) K) Q) := by
  subst h₁ h₂
  unfold barKit owing
  iintro ⟨⟨%κ, %κp, %κn, #HI, #HIp, #HIn, Htp, #Hrp, Htn, #Hrn, Hc, Hat⟩, Hs, Ho, #Hlev, ⟨%W, HO⟩⟩ Hk
  iapply (Rounds.wp_signal 𝒱₀ ER (rd WQ WO) (c : Thread nD τ) none (dst := (prv c : Thread nD τ)) (sem := barS) (r := 0) (d := true) (k' := 1) (κ := κp)
    (by rw [duties_bar]; exact Finset.mem_univ _) (amount_bar WQ WO (prv c) true) () (owe c 7) rfl (W := W)) $$ [HO Htp Hs Ho]
  · isplitr; · iexact HIp
    isplitl [HO]; · iexact HO
    isplitl [Htp]; · iexact Htp
    isplitl; · rw [payload_bar_true, barPay_prv]; isplitl [Hs] <;> iassumption
    iexact Hrp
  iintro HO
  iapply (Rounds.wp_signal 𝒱₀ ER (rd WQ WO) (c : Thread nD τ) none (dst := (nxt c : Thread nD τ)) (sem := barS) (r := 0) (d := false) (k' := 1) (κ := κn)
    (by rw [duties_bar]; exact Finset.mem_univ _) (amount_bar WQ WO (nxt c) false) () (owe c 6) rfl (W := W)) $$ [HO Htn]
  · isplitr; · iexact HIn
    isplitl [HO]; · iexact HO
    isplitl [Htn]; · iexact Htn
    isplitr; · rw [payload_bar_false]; iempintro
    iexact Hrn
  iintro HO
  iapply (Rounds.wp_wait_rest_token 𝒱₀ ER (rd WQ WO) (c : Thread nD τ) none (κ := κ)
      (wpE_semWait_eq 𝒱₀ (c : Thread nD τ) none Set.univ) (Set.mem_univ _) () (O := owe c 6) (W := W) (R := 0) (m := 0) (T := ∅)
      (k' := 2) (by rw [expect_bar])) $$ [Hc HO Hat]
  · isplitr; · iexact HI
    isplitl [Hc]; · iexact Hc
    isplitl [HO]; · iexact HO
    isplitr
    · iapply (mayWait c (.reg barS) 6 (by decide)); iexact Hlev
    iexact Hat
  iintro ⟨HO, Hat, -, Hpay⟩
  ihave Hp := ((rest_bar WQ WO c).trans (Entails.of_eq (barPay_eq c))) $$ Hpay
  icases Hp with ⟨Hs, Ho⟩
  imod (close WQ WO κ (barCell c)) $$ [Hat] with Hz
  · isplitr; · iexact HI
    iexact Hat
  iapply Hk
  isplitl [Hz]; · iexact Hz
  isplitl [Hs]; · iexact Hs
  isplitl [Ho]; · iexact Ho
  iexists _; iexact HO

/-- A hop out of a slot. -/
theorem hop_slot {Q : α → sProp 𝕄} {s : Shape} (src dst : Memref sig .tc .vmem s .bf16) (k₁ k₂ : Fin 12) (j : ℕ) (X : s.Idx → Elt F .bf16)
    (hamt₁ : dst.view.dmaCredit = amt k₁) (hamt₂ : dst.view.dmaCredit = amt k₂)
    (hj : owe c (j + 1) = owe c j + tallyAt (cell (nxt c) k₂) () (amt k₂))
    (hp₁ : slotAt src c fullShare.left X = pay WQ WO c k₁)
    (hp₂ : slotAt dst (nxt c) fullShare X = pay WQ WO (nxt c) k₂)
    (n : Dev nD) (hn : n = nxt c)
    {sS sR : DmaSem sig} (hS : sS = (Fin.natAdd 6 k₁ : Fin 18)) (hR : sR = (Fin.natAdd 6 k₂ : Fin 18))
    {hsc : (dst : Memref sig (Dev.tc n : Thread nD τ).2.kind .vmem s .bf16).view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} :
    iprop(sendKit WQ WO c k₁ k₂ ∗ slotAt src c fullShare.left X ∗ slotAny dst (nxt c) ∗ reached ER (cell (nxt c) k₂) 0 ∗ owing c (j + 1))
      ⊢ iprop(((waitKit WQ WO c k₁ ∗ owing c j) -∗ run c (k ⟨⟩) Q)
          -∗ run c (.op (.enqueueDma src (.remote (Dev.tc n : Thread nD τ) dst (.dma sS) hsc) (.dma sR) hsrc hdst hsem) k) Q) :=
  hop WQ WO c src dst k₁ k₂ j X (src.view.write (Elt F) (Classical.arbitrary _) X Finset.univ) (View.read_write_univ _ _)
    hamt₁ hamt₂ hj (Entails.of_eq hp₁) (Entails.of_eq hp₂) n hn hS hR

end

end Cert.RingProof

end
-- ==== Proof.Body.lean ====
/-
  The body of the kernel, run at an arbitrary device: from its semaphores' kits, its windows' blocks and its landing slots, it ends
  with every semaphore at zero, the input blocks as they were, and the output block holding `result`.
-/
module

public import proofs.«01_k».proof.Proof.Meet

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (WQ : Dev nD → S768x512.Idx → Elt F .bf16) (WO : Dev nD → S512x768.Idx → Elt F .bf16)

/-- The blocks that reach device `c`, turn by turn: its own, then those of the devices before it. -/
def trav {α : Type} (W : Dev nD → α) (c : Dev nD) : Fin 4 → α := ![W c, W (prv c), W (prv (prv c)), W (prv (prv (prv c)))]

/-- Device `c` owns a window's block whole, at share `q`. -/
abbrev winAt {s : Shape} {e : EltTy} (v : Memref sig .tc .vmem s e) (c : Dev nD) (q : PosShare TreeShare) (f : Buf (Elt F) (v.view.loc (c : Thread nD τ))) : sProp 𝕄 :=
  (v.view.loc (c : Thread nD τ)) ↦[Finset.univ]{q} f

/-- The six input and output blocks of a device. -/
def wins (c : Dev nD) (X : S2x512x768.Idx → Elt F .bf16) (Kb Vb : S4x2x8x512x64.Idx → Elt F .bf16) (o : S2x512x768.Idx → Elt F .f32) : sProp 𝕄 :=
  iprop(winAt xIn c fullShare X ∗ winAt qIn c fullShare (WQ c) ∗ winAt kIn c fullShare Kb ∗ winAt vIn c fullShare Vb
    ∗ winAt oIn c fullShare (WO c) ∗ winAt outM c fullShare o)

/-- The kits of a device's six hops and of its six receives. -/
def sends (c : Dev nD) : sProp 𝕄 :=
  iprop(sendKit WQ WO c 0 3 ∗ sendKit WQ WO c 6 9 ∗ sendKit WQ WO c 1 4 ∗ sendKit WQ WO c 7 10 ∗ sendKit WQ WO c 2 5 ∗ sendKit WQ WO c 8 11)
def recvs (c : Dev nD) : sProp 𝕄 :=
  iprop(waitKit WQ WO c 3 ∗ waitKit WQ WO c 9 ∗ waitKit WQ WO c 4 ∗ waitKit WQ WO c 10 ∗ waitKit WQ WO c 5 ∗ waitKit WQ WO c 11)

/-- What device `c`'s body starts from. -/
def bodyPre (c : Dev nD) (X : S2x512x768.Idx → Elt F .bf16) (Kb Vb : S4x2x8x512x64.Idx → Elt F .bf16) (o : S2x512x768.Idx → Elt F .f32) : sProp 𝕄 :=
  iprop(barKit WQ WO c ∗ sends WQ WO c ∗ recvs WQ WO c ∗ opened c ∗ levAts L lv ∗ wins WQ WO c X Kb Vb o ∗ slots c ∗ owing c 8)

/-- The twelve transfer semaphores of a device at zero. -/
def zeros (c : Dev nD) : sProp 𝕄 := bigSep Finset.univ fun k : Fin 12 => semVal (cell c k) 0

theorem zeros_eq (c : Dev nD) : (zeros c : sProp 𝕄)
    = iprop(semVal (cell c 0) 0 ∗ semVal (cell c 1) 0 ∗ semVal (cell c 2) 0 ∗ semVal (cell c 3) 0 ∗ semVal (cell c 4) 0 ∗ semVal (cell c 5) 0
        ∗ semVal (cell c 6) 0 ∗ semVal (cell c 7) 0 ∗ semVal (cell c 8) 0 ∗ semVal (cell c 9) 0 ∗ semVal (cell c 10) 0 ∗ semVal (cell c 11) 0) :=
  bigSep_twelve fun k : Fin 12 => (semVal (cell c k) 0 : sProp 𝕄)

/-- What device `c`'s body ends with. -/
def bodyPost (c : Dev nD) (X : S2x512x768.Idx → Elt F .bf16) (Kb Vb : S4x2x8x512x64.Idx → Elt F .bf16) : sProp 𝕄 :=
  iprop(semVal (barCell c) 0 ∗ zeros c ∗ wins WQ WO c X Kb Vb (result c X Kb Vb (trav WQ c) (trav WO c)) ∗ slots c ∗ owing c 0)

/-- What a send hands over is half of a window, or of a slot. -/
theorem pay_win (c : Dev nD) : ((pay WQ WO c 0 : sProp 𝕄) = winAt qIn c fullShare.left (WQ c)) ∧ (pay WQ WO c 6 : sProp 𝕄) = winAt oIn c fullShare.left (WO c) := by
  have hq : (pay WQ WO c 0 : sProp 𝕄) = ((qIn.view.loc (c : Thread nD τ)) ↦[qIn.view.set]{fullShare.left} WQ c) := rfl
  have ho : (pay WQ WO c 6 : sProp 𝕄) = ((oIn.view.loc (c : Thread nD τ)) ↦[oIn.view.set]{fullShare.left} WO c) := rfl
  exact ⟨hq.trans (congrArg (fun S => ((qIn.view.loc (c : Thread nD τ)) ↦[S]{fullShare.left} WQ c : sProp 𝕄)) (View.set_whole _)),
    ho.trans (congrArg (fun S => ((oIn.view.loc (c : Thread nD τ)) ↦[S]{fullShare.left} WO c : sProp 𝕄)) (View.set_whole _))⟩

section
variable (c : Dev nD) {α : Type}

/-- A hop out of a window. -/
theorem hop_win {Q : α → sProp 𝕄} {s : Shape} (src dst : Memref sig .tc .vmem s .bf16) (hw : src.view.set = Finset.univ) (k₁ k₂ : Fin 12) (j : ℕ) (X : s.Idx → Elt F .bf16)
    (fs : Buf (Elt F) (src.view.loc (c : Thread nD τ))) (hX : src.view.read (Elt F) fs = X)
    (hamt₁ : dst.view.dmaCredit = amt k₁) (hamt₂ : dst.view.dmaCredit = amt k₂)
    (hj : owe c (j + 1) = owe c j + tallyAt (cell (nxt c) k₂) () (amt k₂))
    (hp₁ : winAt src c fullShare.left fs = pay WQ WO c k₁)
    (hp₂ : slotAt dst (nxt c) fullShare X = pay WQ WO (nxt c) k₂)
    (n : Dev nD) (hn : n = nxt c)
    {sS sR : DmaSem sig} (hS : sS = (Fin.natAdd 6 k₁ : Fin 18)) (hR : sR = (Fin.natAdd 6 k₂ : Fin 18))
    {hsc : (dst : Memref sig (Dev.tc n : Thread nD τ).2.kind .vmem s .bf16).view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} :
    iprop(sendKit WQ WO c k₁ k₂ ∗ winAt src c fullShare.left fs ∗ slotAny dst (nxt c) ∗ reached ER (cell (nxt c) k₂) 0 ∗ owing c (j + 1))
      ⊢ iprop(((waitKit WQ WO c k₁ ∗ owing c j) -∗ run c (k ⟨⟩) Q)
          -∗ run c (.op (.enqueueDma src (.remote (Dev.tc n : Thread nD τ) dst (.dma sS) hsc) (.dma sR) hsrc hdst hsem) k) Q) := by
  have h := hop WQ WO c (Q := Q) src dst k₁ k₂ j X fs hX hamt₁ hamt₂ hj (by rw [hw]; exact Entails.of_eq hp₁) (Entails.of_eq hp₂) n hn hS hR (hsc := hsc) (hsrc := hsrc) (hdst := hdst) (hsem := hsem) (k := k)
  rw [hw] at h; exact h

end

/-- The output block, as its two batches. -/
theorem out_glued (c : Dev nD) (o : S2x512x768.Idx → Elt F .f32) :
    (winAt outM c fullShare o : sProp 𝕄) ⊢ outAt c (outM.view.readAt (Elt F) xr0.toLoadRect o) (outM.view.readAt (Elt F) xr1.toLoadRect o) := by
  unfold outAt; rw [glue_reads]

theorem out_result (c : Dev nD) (X : S2x512x768.Idx → Elt F .bf16) (Kb Vb : S4x2x8x512x64.Idx → Elt F .bf16) :
    (outAt c (acc30 c X Kb Vb (trav WQ c) (trav WO c)) (acc31 c X Kb Vb (trav WQ c) (trav WO c)) : sProp 𝕄)
      ⊢ winAt outM c fullShare (result c X Kb Vb (trav WQ c) (trav WO c)) := by
  unfold outAt result; exact Entails.refl _

set_option maxHeartbeats 4000000 in
/-- THE BODY at device `c`. -/
theorem body_run (c : Dev nD) (X : S2x512x768.Idx → Elt F .bf16) (Kb Vb : S4x2x8x512x64.Idx → Elt F .bf16) (o : S2x512x768.Idx → Elt F .f32)
    (Q : PUnit → sProp 𝕄) (h0 : xIn.IsWhole) (h1 : qIn.IsWhole) (h2 : kIn.IsWhole) (h3 : vIn.IsWhole) (h4 : oIn.IsWhole) (h5 : outM.IsWhole)
    (h6 : qBuf.IsWhole) (h7 : oBuf.IsWhole) :
    iprop(bodyPre WQ WO c X Kb Vb o ∗ (bodyPost WQ WO c X Kb Vb -∗ Q ⟨⟩))
      ⊢ run c (cc0_body xIn h0 qIn h1 kIn h2 vIn h3 oIn h4 outM h5 qBuf h6 oBuf h7 cc0_scratch2 cc0_scratch3 cc0_scratch4 cc0_scratch5) Q := by
  unfold bodyPre bodyPost sends recvs wins run
  simp only [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  iintro ⟨⟨Hbar, ⟨HS0, HS6, HS1, HS7, HS2, HS8⟩, ⟨HR3, HR9, HR4, HR10, HR5, HR11⟩, Hop, #Hlev, ⟨Hx, Hq, Hk, Hv, Ho, Hout⟩, Hsl, HO⟩, HQ⟩
  iapply (meet WQ WO c _ _ (dev1_eq c) (dev2_eq c)) $$ [Hbar Hsl Hop HO]
  · isplitl [Hbar]; · iexact Hbar
    isplitl [Hsl]; · iexact Hsl
    isplitl [Hop]; · iexact Hop
    isplitr; · iexact Hlev
    iexact HO
  iintro ⟨Hzb, Hsl, Hop, HO⟩
  ihave Hsl := (Entails.of_eq (slots_eq (nxt c))) $$ Hsl
  ihave Hop := (Entails.of_eq (opened_eq (nxt c))) $$ Hop
  icases Hsl with ⟨Hd3, Hd9, Hd4, Hd10, Hd5, Hd11⟩
  icases Hop with ⟨#Hr3, #Hr9, #Hr4, #Hr10, #Hr5, #Hr11⟩
  -- part 2
  rw [k0_part2_eq_skeleton]; unfold k0_part2_skel
  simp only [Prog.lift, Prog.bind_op, Prog.bind_ret, Prog.pure_eq_ret]
  -- part 3
  rw [k0_part3_eq_skeleton]; unfold k0_part3_skel
  simp only [Prog.lift, Prog.bind_op, Prog.bind_ret, Prog.pure_eq_ret]
  ihave Hq := ((win_halves qIn c (WQ c)).1) $$ Hq
  icases Hq with ⟨Hql, Hq⟩
  ihave Ho := ((win_halves oIn c (WO c)).1) $$ Ho
  icases Ho with ⟨Hol, Ho⟩
  iapply (hop_win WQ WO c qIn q0 (View.set_whole _) 0 3 5 (WQ c) (WQ c) rfl rfl rfl rfl (pay_win WQ WO c).1.symm (by show _ = slotAt q0 _ fullShare (WQ (prv (nxt c))); rw [prv_nxt]) _ (dev3_eq c) rfl rfl) $$ [HS0 Hql Hd3 HO]
  · isplitl [HS0]; · iexact HS0
    isplitl [Hql]; · iexact Hql
    isplitl [Hd3]; · iexact Hd3
    isplitr; · iexact Hr3
    iexact HO
  iintro ⟨HW0, HO⟩
  iapply (hop_win WQ WO c oIn o0 (View.set_whole _) 6 9 4 (WO c) (WO c) rfl rfl rfl rfl (pay_win WQ WO c).2.symm (by show _ = slotAt o0 _ fullShare (WO (prv (nxt c))); rw [prv_nxt]) _ (dev4_eq c) rfl rfl) $$ [HS6 Hol Hd9 HO]
  · isplitl [HS6]; · iexact HS6
    isplitl [Hol]; · iexact Hol
    isplitl [Hd9]; · iexact Hd9
    isplitr; · iexact Hr9
    iexact HO
  iintro ⟨HW6, HO⟩
  iapply (ld_win c qIn (q := fullShare.right)) $$ Hq; iintro Hq
  -- part 4
  rw [k0_part4_eq_skeleton]; unfold k0_part4_skel
  simp only [Prog.lift, Prog.bind_op, Prog.bind_ret, Prog.pure_eq_ret]
  iapply (ld_win c xIn (q := fullShare)) $$ Hx; iintro Hx
  iapply (ld_win c kIn (q := fullShare)) $$ Hk; iintro Hk
  iapply (ld_win c vIn (q := fullShare)) $$ Hv; iintro Hv
  iapply (ld_win c xIn (q := fullShare)) $$ Hx; iintro Hx
  -- part 5
  rw [k0_part5_eq_skeleton]; unfold k0_part5_skel
  simp only [Prog.lift, Prog.bind_op, Prog.bind_ret, Prog.pure_eq_ret]
  iapply (ld_win c kIn (q := fullShare)) $$ Hk; iintro Hk
  iapply (ld_win c vIn (q := fullShare)) $$ Hv; iintro Hv
  iapply (ld_win c oIn (q := fullShare.right)) $$ Ho; iintro Ho
  ihave Hout := (out_glued c o) $$ Hout
  iapply (ld_out0 c _ _) $$ Hout; iintro Hout
  iapply (st_out0 c _ _ (acc00 c X Kb Vb (trav WQ c) (trav WO c))) $$ Hout; iintro Hout
  iapply (ld_out1 c _ _) $$ Hout; iintro Hout
  iapply (st_out1 c _ _ (acc01 c X Kb Vb (trav WQ c) (trav WO c))) $$ Hout; iintro Hout
  -- part 6
  rw [k0_part6_eq_skeleton]; unfold k0_part6_skel
  simp only [Prog.lift, Prog.bind_op, Prog.bind_ret, Prog.pure_eq_ret]
  iapply (wait WQ WO c q0 q0 3 4 rfl (by decide) rfl) $$ [HR3 HO]
  · isplitl [HR3]; · iexact HR3
    isplitr; · iexact Hlev
    iexact HO
  iintro ⟨Hz3, Hq0, HO⟩
  ihave Hq0 := (Entails.of_eq (show pay WQ WO c 3 = slotAt q0 c fullShare (WQ (prv c)) from rfl)) $$ Hq0
  ihave Hq0 := ((slot_halves q0 c (WQ (prv c))).1) $$ Hq0
  icases Hq0 with ⟨Hq0l, Hq0⟩
  iapply (hop_slot WQ WO c q0 q1 1 4 3 (WQ (prv c)) rfl rfl rfl rfl (by show _ = slotAt q1 _ fullShare (WQ (prv (prv (nxt c)))); rw [prv_nxt]) _ (dev5_eq c) rfl rfl) $$ [HS1 Hq0l Hd4 HO]
  · isplitl [HS1]; · iexact HS1
    isplitl [Hq0l]; · iexact Hq0l
    isplitl [Hd4]; · iexact Hd4
    isplitr; · iexact Hr4
    iexact HO
  iintro ⟨HW1, HO⟩
  iapply (ld_slot c qBuf qr0 (fun _ => rfl) squeezes_S1x768x512_S768x512 fullShare.right (WQ (prv c))) $$ Hq0; iintro Hq0
  iapply (ld_win c xIn (q := fullShare)) $$ Hx; iintro Hx
  -- part 7
  rw [k0_part7_eq_skeleton]; unfold k0_part7_skel
  simp only [Prog.lift, Prog.bind_op, Prog.bind_ret, Prog.pure_eq_ret]
  iapply (ld_win c kIn (q := fullShare)) $$ Hk; iintro Hk
  iapply (ld_win c vIn (q := fullShare)) $$ Hv; iintro Hv
  iapply (ld_win c xIn (q := fullShare)) $$ Hx; iintro Hx
  iapply (ld_win c kIn (q := fullShare)) $$ Hk; iintro Hk
  iapply (ld_win c vIn (q := fullShare)) $$ Hv; iintro Hv
  -- part 8
  rw [k0_part8_eq_skeleton]; unfold k0_part8_skel
  simp only [Prog.lift, Prog.bind_op, Prog.bind_ret, Prog.pure_eq_ret]
  iapply (wait WQ WO c o0 o0 9 3 rfl (by decide) rfl) $$ [HR9 HO]
  · isplitl [HR9]; · iexact HR9
    isplitr; · iexact Hlev
    iexact HO
  iintro ⟨Hz9, Ho0, HO⟩
  ihave Ho0 := (Entails.of_eq (show pay WQ WO c 9 = slotAt o0 c fullShare (WO (prv c)) from rfl)) $$ Ho0
  ihave Ho0 := ((slot_halves o0 c (WO (prv c))).1) $$ Ho0
  icases Ho0 with ⟨Ho0l, Ho0⟩
  -- part 9
  rw [k0_part9_eq_skeleton]; unfold k0_part9_skel
  simp only [Prog.lift, Prog.bind_op, Prog.bind_ret, Prog.pure_eq_ret]
  iapply (hop_slot WQ WO c o0 o1 7 10 2 (WO (prv c)) rfl rfl rfl rfl (by show _ = slotAt o1 _ fullShare (WO (prv (prv (nxt c)))); rw [prv_nxt]) _ (dev6_eq c) rfl rfl) $$ [HS7 Ho0l Hd10 HO]
  · isplitl [HS7]; · iexact HS7
    isplitl [Ho0l]; · iexact Ho0l
    isplitl [Hd10]; · iexact Hd10
    isplitr; · iexact Hr10
    iexact HO
  iintro ⟨HW7, HO⟩
  iapply (ld_slot c oBuf or0 (fun _ => rfl) squeezes_S1x512x768_S512x768 fullShare.right (WO (prv c))) $$ Ho0; iintro Ho0
  iapply (ld_out0 c _ _) $$ Hout; iintro Hout
  iapply (ld_out0 c _ _) $$ Hout; iintro Hout
  iapply (st_out0 c _ _ (acc10 c X Kb Vb (trav WQ c) (trav WO c))) $$ Hout; iintro Hout
  iapply (ld_out1 c _ _) $$ Hout; iintro Hout
  iapply (ld_out1 c _ _) $$ Hout; iintro Hout
  iapply (st_out1 c _ _ (acc11 c X Kb Vb (trav WQ c) (trav WO c))) $$ Hout; iintro Hout
  iapply (wait WQ WO c q1 q1 4 2 rfl (by decide) rfl) $$ [HR4 HO]
  · isplitl [HR4]; · iexact HR4
    isplitr; · iexact Hlev
    iexact HO
  iintro ⟨Hz4, Hq1, HO⟩
  ihave Hq1 := (Entails.of_eq (show pay WQ WO c 4 = slotAt q1 c fullShare (WQ (prv (prv c))) from rfl)) $$ Hq1
  ihave Hq1 := ((slot_halves q1 c (WQ (prv (prv c)))).1) $$ Hq1
  icases Hq1 with ⟨Hq1l, Hq1⟩
  -- part 10
  rw [k0_part10_eq_skeleton]; unfold k0_part10_skel
  simp only [Prog.lift, Prog.bind_op, Prog.bind_ret, Prog.pure_eq_ret]
  iapply (hop_slot WQ WO c q1 q2 2 5 1 (WQ (prv (prv c))) rfl rfl rfl rfl (by show _ = slotAt q2 _ fullShare (WQ (prv (prv (prv (nxt c))))); rw [prv_nxt]) _ (dev7_eq c) rfl rfl) $$ [HS2 Hq1l Hd5 HO]
  · isplitl [HS2]; · iexact HS2
    isplitl [Hq1l]; · iexact Hq1l
    isplitl [Hd5]; · iexact Hd5
    isplitr; · iexact Hr5
    iexact HO
  iintro ⟨HW2, HO⟩
  iapply (ld_slot c qBuf qr1 (fun _ => rfl) squeezes_S1x768x512_S768x512 fullShare.right (WQ (prv (prv c)))) $$ Hq1; iintro Hq1
  iapply (ld_win c xIn (q := fullShare)) $$ Hx; iintro Hx
  iapply (ld_win c kIn (q := fullShare)) $$ Hk; iintro Hk
  iapply (ld_win c vIn (q := fullShare)) $$ Hv; iintro Hv
  -- part 11
  rw [k0_part11_eq_skeleton]; unfold k0_part11_skel
  simp only [Prog.lift, Prog.bind_op, Prog.bind_ret, Prog.pure_eq_ret]
  iapply (ld_win c xIn (q := fullShare)) $$ Hx; iintro Hx
  iapply (ld_win c kIn (q := fullShare)) $$ Hk; iintro Hk
  iapply (ld_win c vIn (q := fullShare)) $$ Hv; iintro Hv
  -- part 12
  rw [k0_part12_eq_skeleton]; unfold k0_part12_skel
  simp only [Prog.lift, Prog.bind_op, Prog.bind_ret, Prog.pure_eq_ret]
  iapply (wait WQ WO c o1 o1 10 1 rfl (by decide) rfl) $$ [HR10 HO]
  · isplitl [HR10]; · iexact HR10
    isplitr; · iexact Hlev
    iexact HO
  iintro ⟨Hz10, Ho1, HO⟩
  ihave Ho1 := (Entails.of_eq (show pay WQ WO c 10 = slotAt o1 c fullShare (WO (prv (prv c))) from rfl)) $$ Ho1
  ihave Ho1 := ((slot_halves o1 c (WO (prv (prv c)))).1) $$ Ho1
  icases Ho1 with ⟨Ho1l, Ho1⟩
  iapply (hop_slot WQ WO c o1 o2 8 11 0 (WO (prv (prv c))) rfl rfl rfl rfl (by show _ = slotAt o2 _ fullShare (WO (prv (prv (prv (nxt c))))); rw [prv_nxt]) _ (dev8_eq c) rfl rfl) $$ [HS8 Ho1l Hd11 HO]
  · isplitl [HS8]; · iexact HS8
    isplitl [Ho1l]; · iexact Ho1l
    isplitl [Hd11]; · iexact Hd11
    isplitr; · iexact Hr11
    iexact HO
  iintro ⟨HW8, HO⟩
  iapply (ld_slot c oBuf or1 (fun _ => rfl) squeezes_S1x512x768_S512x768 fullShare.right (WO (prv (prv c)))) $$ Ho1; iintro Ho1
  iapply (ld_out0 c _ _) $$ Hout; iintro Hout
  -- part 13
  rw [k0_part13_eq_skeleton]; unfold k0_part13_skel
  simp only [Prog.lift, Prog.bind_op, Prog.bind_ret, Prog.pure_eq_ret]
  iapply (ld_out0 c _ _) $$ Hout; iintro Hout
  iapply (st_out0 c _ _ (acc20 c X Kb Vb (trav WQ c) (trav WO c))) $$ Hout; iintro Hout
  iapply (ld_out1 c _ _) $$ Hout; iintro Hout
  iapply (ld_out1 c _ _) $$ Hout; iintro Hout
  iapply (st_out1 c _ _ (acc21 c X Kb Vb (trav WQ c) (trav WO c))) $$ Hout; iintro Hout
  iapply (wait WQ WO c q2 q2 5 0 rfl (by decide) rfl) $$ [HR5 HO]
  · isplitl [HR5]; · iexact HR5
    isplitr; · iexact Hlev
    iexact HO
  iintro ⟨Hz5, Hq2, HO⟩
  ihave Hq2 := (Entails.of_eq (show pay WQ WO c 5 = slotAt q2 c fullShare (WQ (prv (prv (prv c)))) from rfl)) $$ Hq2
  iapply (ld_slot c qBuf qr2 (fun _ => rfl) squeezes_S1x768x512_S768x512 fullShare (WQ (prv (prv (prv c))))) $$ Hq2; iintro Hq2
  iapply (ld_win c xIn (q := fullShare)) $$ Hx; iintro Hx
  -- part 14
  rw [k0_part14_eq_skeleton]; unfold k0_part14_skel
  simp only [Prog.lift, Prog.bind_op, Prog.bind_ret, Prog.pure_eq_ret]
  iapply (ld_win c kIn (q := fullShare)) $$ Hk; iintro Hk
  iapply (ld_win c vIn (q := fullShare)) $$ Hv; iintro Hv
  iapply (ld_win c xIn (q := fullShare)) $$ Hx; iintro Hx
  iapply (ld_win c kIn (q := fullShare)) $$ Hk; iintro Hk
  iapply (ld_win c vIn (q := fullShare)) $$ Hv; iintro Hv
  -- part 15
  rw [k0_part15_eq_skeleton]; unfold k0_part15_skel
  simp only [Prog.lift, Prog.bind_op, Prog.bind_ret, Prog.pure_eq_ret]
  iapply (wait WQ WO c o2 o2 11 0 rfl (by decide) rfl) $$ [HR11 HO]
  · isplitl [HR11]; · iexact HR11
    isplitr; · iexact Hlev
    iexact HO
  iintro ⟨Hz11, Ho2, HO⟩
  ihave Ho2 := (Entails.of_eq (show pay WQ WO c 11 = slotAt o2 c fullShare (WO (prv (prv (prv c)))) from rfl)) $$ Ho2
  iapply (ld_slot c oBuf or2 (fun _ => rfl) squeezes_S1x512x768_S512x768 fullShare (WO (prv (prv (prv c))))) $$ Ho2; iintro Ho2
  iapply (ld_out0 c _ _) $$ Hout; iintro Hout
  iapply (ld_out0 c _ _) $$ Hout; iintro Hout
  -- part 16
  rw [k0_part16_eq_skeleton]; unfold k0_part16_skel
  simp only [Prog.lift, Prog.bind_op, Prog.bind_ret, Prog.pure_eq_ret]
  iapply (st_out0 c _ _ (acc30 c X Kb Vb (trav WQ c) (trav WO c))) $$ Hout; iintro Hout
  iapply (ld_out1 c _ _) $$ Hout; iintro Hout
  iapply (ld_out1 c _ _) $$ Hout; iintro Hout
  iapply (st_out1 c _ _ (acc31 c X Kb Vb (trav WQ c) (trav WO c))) $$ Hout; iintro Hout
  iapply (wait WQ WO c q0 qIn 0 0 rfl (by decide) rfl) $$ [HW0 HO]
  · isplitl [HW0]; · iexact HW0
    isplitr; · iexact Hlev
    iexact HO
  iintro ⟨Hz0, Hql, HO⟩
  iapply (wait WQ WO c o0 oIn 6 0 rfl (by decide) rfl) $$ [HW6 HO]
  · isplitl [HW6]; · iexact HW6
    isplitr; · iexact Hlev
    iexact HO
  iintro ⟨Hz6, Hol, HO⟩
  iapply (wait WQ WO c q1 q0 1 0 rfl (by decide) rfl) $$ [HW1 HO]
  · isplitl [HW1]; · iexact HW1
    isplitr; · iexact Hlev
    iexact HO
  iintro ⟨Hz1, Hq0l, HO⟩
  ihave Hq0l := (Entails.of_eq (show pay WQ WO c 1 = slotAt q0 c fullShare.left (WQ (prv c)) from rfl)) $$ Hq0l
  iapply (wait WQ WO c o1 o0 7 0 rfl (by decide) rfl) $$ [HW7 HO]
  · isplitl [HW7]; · iexact HW7
    isplitr; · iexact Hlev
    iexact HO
  iintro ⟨Hz7, Ho0l, HO⟩
  ihave Ho0l := (Entails.of_eq (show pay WQ WO c 7 = slotAt o0 c fullShare.left (WO (prv c)) from rfl)) $$ Ho0l
  iapply (wait WQ WO c q2 q1 2 0 rfl (by decide) rfl) $$ [HW2 HO]
  · isplitl [HW2]; · iexact HW2
    isplitr; · iexact Hlev
    iexact HO
  iintro ⟨Hz2, Hq1l, HO⟩
  ihave Hq1l := (Entails.of_eq (show pay WQ WO c 2 = slotAt q1 c fullShare.left (WQ (prv (prv c))) from rfl)) $$ Hq1l
  iapply (wait WQ WO c o2 o1 8 0 rfl (by decide) rfl) $$ [HW8 HO]
  · isplitl [HW8]; · iexact HW8
    isplitr; · iexact Hlev
    iexact HO
  iintro ⟨Hz8, Ho1l, HO⟩
  ihave Ho1l := (Entails.of_eq (show pay WQ WO c 8 = slotAt o1 c fullShare.left (WO (prv (prv c))) from rfl)) $$ Ho1l
  unfold run; rw [wp_ret]
  imodintro
  iapply HQ
  isplitl [Hzb]; · iexact Hzb
  isplitl [Hz0 Hz1 Hz2 Hz3 Hz4 Hz5 Hz6 Hz7 Hz8 Hz9 Hz10 Hz11]
  · iapply (Entails.of_eq (zeros_eq c).symm)
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    iexact Hz11
  isplitl [Hx Hql Hq Hk Hv Hol Ho Hout]
  · isplitl [Hx]; · iexact Hx
    isplitl [Hql Hq]
    · iapply ((win_halves qIn c (WQ c)).2)
      isplitl [Hql]; · iapply (Entails.of_eq (pay_win WQ WO c).1) $$ Hql
      iexact Hq
    isplitl [Hk]; · iexact Hk
    isplitl [Hv]; · iexact Hv
    isplitl [Hol Ho]
    · iapply ((win_halves oIn c (WO c)).2)
      isplitl [Hol]; · iapply (Entails.of_eq (pay_win WQ WO c).2) $$ Hol
      iexact Ho
    iapply (out_result WQ WO c X Kb Vb) $$ Hout
  isplitr [HO]
  · iapply (Entails.of_eq (slots_eq c).symm)
    isplitl [Hq0l Hq0]
    · iapply (slotAny_of_halves q0 c (WQ (prv c)))
      isplitl [Hq0l] <;> iassumption
    isplitl [Ho0l Ho0]
    · iapply (slotAny_of_halves o0 c (WO (prv c)))
      isplitl [Ho0l] <;> iassumption
    isplitl [Hq1l Hq1]
    · iapply (slotAny_of_halves q1 c (WQ (prv (prv c))))
      isplitl [Hq1l] <;> iassumption
    isplitl [Ho1l Ho1]
    · iapply (slotAny_of_halves o1 c (WO (prv (prv c))))
      isplitl [Ho1l] <;> iassumption
    isplitl [Hq2]
    · iapply (slotAny_of_slotAt q2 c (WQ (prv (prv (prv c))))) $$ Hq2
    iapply (slotAny_of_slotAt o2 c (WO (prv (prv (prv c))))) $$ Ho2
  iexact HO

end Cert.RingProof

end
-- ==== Proof.Slots.lean ====
/-
  The two landing buffers, whole, are their three slots each.
-/
module

public import proofs.«01_k».proof.Proof.Body
public import Idealize.ShloMosaic.Lib.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The elements of a three-slot buffer that lie in slot `s`. -/
def third {s : Shape} (h : s.rank = 3) (h0 : s.size ⟨0, by omega⟩ = 3) (t : Fin 3) : Finset s.Idx :=
  Finset.univ.filter fun i => (i ⟨0, by omega⟩).val = t.val

theorem third_disjoint {s : Shape} (h : s.rank = 3) (h0 : s.size ⟨0, by omega⟩ = 3) (t t' : Fin 3) (ht : t ≠ t') :
    Disjoint (third h h0 t) (third h h0 t') := by
  rw [Finset.disjoint_left]
  intro i hi hi'
  exact ht (Fin.ext ((Finset.mem_filter.mp hi).2.symm.trans (Finset.mem_filter.mp hi').2))

theorem third_cover {s : Shape} (h : s.rank = 3) (h0 : s.size ⟨0, by omega⟩ = 3) : Finset.univ.biUnion (third h h0) = Finset.univ := by
  ext i
  refine ⟨fun _ => Finset.mem_univ _, fun _ => Finset.mem_biUnion.mpr ⟨⟨(i ⟨0, by omega⟩).val, lt_of_lt_of_eq (i ⟨0, by omega⟩).isLt h0⟩, Finset.mem_univ _, ?_⟩⟩
  exact Finset.mem_filter.mpr ⟨Finset.mem_univ _, rfl⟩

abbrev thirdQ : Fin 3 → Finset S3x768x512.Idx := third (s := S3x768x512) rfl rfl
abbrev thirdO : Fin 3 → Finset S3x512x768.Idx := third (s := S3x512x768) rfl rfl

/-- The elements whose first coordinate is `t` are those of the slice at `t`. -/
theorem slice_third (m n t : ℕ) (ht : t < 3) (inb : ∀ a, (![t, 0, 0] : Fin 3 → ℕ) a + (![1, m, n] : Fin 3 → ℕ) a ≤ (![3, m, n] : Fin 3 → ℕ) a) :
    (Rect.unit (s := ⟨3, ![3, m, n]⟩) ![t, 0, 0] ![1, m, n] inb).set = third (s := ⟨3, ![3, m, n]⟩) rfl rfl ⟨t, ht⟩ := by
  ext i
  rw [Rect.mem_set_unit]
  refine ⟨fun h => Finset.mem_filter.mpr ⟨Finset.mem_univ _, ?_⟩, fun h a => ?_⟩
  · have h0 := h 0
    simp at h0
    show (i 0).val = t
    omega
  · have h0 : (i 0).val = t := (Finset.mem_filter.mp h).2
    match a with
    | 0 => show t ≤ (i 0).val ∧ (i 0).val < t + 1; omega
    | 1 => have h1 : (i 1).val < m := (i 1).isLt
           show 0 ≤ (i 1).val ∧ (i 1).val < 0 + m; omega
    | 2 => have h2 : (i 2).val < n := (i 2).isLt
           show 0 ≤ (i 2).val ∧ (i 2).val < 0 + n; omega

theorem set_q0 : q0.view.set = thirdQ 0 := (View.set_reshape _ _).trans ((View.set_slice_whole _ _).trans (slice_third 768 512 0 (by decide) _))
theorem set_q1 : q1.view.set = thirdQ 1 := (View.set_reshape _ _).trans ((View.set_slice_whole _ _).trans (slice_third 768 512 1 (by decide) _))
theorem set_q2 : q2.view.set = thirdQ 2 := (View.set_reshape _ _).trans ((View.set_slice_whole _ _).trans (slice_third 768 512 2 (by decide) _))
theorem set_o0 : o0.view.set = thirdO 0 := (View.set_reshape _ _).trans ((View.set_slice_whole _ _).trans (slice_third 512 768 0 (by decide) _))
theorem set_o1 : o1.view.set = thirdO 1 := (View.set_reshape _ _).trans ((View.set_slice_whole _ _).trans (slice_third 512 768 1 (by decide) _))
theorem set_o2 : o2.view.set = thirdO 2 := (View.set_reshape _ _).trans ((View.set_slice_whole _ _).trans (slice_third 512 768 2 (by decide) _))

/-- A slot whose elements are `J`, as elements of its buffer. -/
theorem pts_set {s : Shape} (v : Memref sig .tc .vmem s .bf16) (c : Dev nD) (J : Finset v.view.ty.Idx) (hJ : v.view.set = J)
    (f : Buf (Elt F) (v.view.loc (c : Thread nD τ))) :
    ((v.view.loc (c : Thread nD τ)) ↦[v.view.set]{fullShare} f : sProp 𝕄) = ((v.view.loc (c : Thread nD τ)) ↦[J]{fullShare} f) := by rw [hJ]

theorem slots_of_scratch (c : Dev nD) :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) ⊢ (slots c : sProp 𝕄) := by
  unfold slots slotAny
  iintro ⟨Hq, Ho⟩
  ihave Hq := (Ring.slots3_split (Ix := Unit) (Val := Elt F) (Name := ℕ) (U := UU) (Lvl := ℕ) (ℓ := (c : Thread nD τ).loc cc0_scratch0) thirdQ (third_disjoint rfl rfl) (third_cover rfl rfl) (q := fullShare)
    _ _ _ (pts_set q0 c _ set_q0) (pts_set q1 c _ set_q1) (pts_set q2 c _ set_q2)) $$ Hq
  ihave Ho := (Ring.slots3_split (Ix := Unit) (Val := Elt F) (Name := ℕ) (U := UU) (Lvl := ℕ) (ℓ := (c : Thread nD τ).loc cc0_scratch1) thirdO (third_disjoint rfl rfl) (third_cover rfl rfl) (q := fullShare)
    _ _ _ (pts_set o0 c _ set_o0) (pts_set o1 c _ set_o1) (pts_set o2 c _ set_o2)) $$ Ho
  icases Hq with ⟨H0, H1, H2⟩
  icases Ho with ⟨H3, H4, H5⟩
  isplitl [H0]; · iexact H0
  isplitl [H3]; · iexact H3
  isplitl [H1]; · iexact H1
  isplitl [H4]; · iexact H4
  isplitl [H2]; · iexact H2
  iexact H5

theorem scratch_of_slots (c : Dev nD) :
    (slots c : sProp 𝕄) ⊢ iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) := by
  unfold slots slotAny
  iintro ⟨H0, H3, H1, H4, H2, H5⟩
  isplitl [H0 H1 H2]
  · iapply (Ring.slots3_join (Ix := Unit) (Val := Elt F) (Name := ℕ) (U := UU) (Lvl := ℕ) (ℓ := (c : Thread nD τ).loc cc0_scratch0) thirdQ (third_disjoint rfl rfl) (third_cover rfl rfl) (q := fullShare)
      _ _ _ (pts_set q0 c _ set_q0) (pts_set q1 c _ set_q1) (pts_set q2 c _ set_q2))
    isplitl [H0]; · iexact H0
    isplitl [H1]; · iexact H1
    iexact H2
  · iapply (Ring.slots3_join (Ix := Unit) (Val := Elt F) (Name := ℕ) (U := UU) (Lvl := ℕ) (ℓ := (c : Thread nD τ).loc cc0_scratch1) thirdO (third_disjoint rfl rfl) (third_cover rfl rfl) (q := fullShare)
      _ _ _ (pts_set o0 c _ set_o0) (pts_set o1 c _ set_o1) (pts_set o2 c _ set_o2))
    isplitl [H3]; · iexact H3
    isplitl [H4]; · iexact H4
    iexact H5

end Cert.RingProof

end
-- ==== Proof.Ghost.lean ====
/-
  What each device holds of the protocol between the launch and the kernel: the records of every cell, its place on its own
  cells, the rights to open its twelve transfer cells, and the tokens of the duties it pays. At the kernel's entry it opens the
  twelve cells, which turns this into what the body starts from.
-/
module

public import proofs.«01_k».proof.Proof.Slots

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the duties -/

theorem osem_inj : Function.Injective osem := by decide
theorem osem_ne_bar : ∀ k : Fin 12, osem k ≠ .reg barS := by decide

/-- The barrier cells, and the transfer cells. -/
def barEmb : Dev nD ↪ GSem nD τ sig := ⟨fun c => barCell c, fun _ _ h => congrArg (fun g : GSem nD τ sig => g.1.1) h⟩
def trEmb : Dev nD × Fin 12 ↪ GSem nD τ sig :=
  ⟨fun x => cell x.1 x.2, fun _ _ h => Prod.ext (congrArg (fun g : GSem nD τ sig => g.1.1) h) (osem_inj (congrArg Prod.snd h))⟩

abbrev barCells : Finset (GSem nD τ sig) := Finset.univ.map barEmb
abbrev trCells : Finset (GSem nD τ sig) := Finset.univ.map trEmb

theorem cells_disjoint : Disjoint (barCells : Finset (GSem nD τ sig)) trCells := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ (barCells ∪ trCells : Finset (GSem nD τ sig)) :=
  Finset.mem_union_left _ (Finset.mem_map_of_mem barEmb (Finset.mem_univ c))
theorem cell_mem (c : Dev nD) (k : Fin 12) : cell c k ∈ (barCells ∪ trCells : Finset (GSem nD τ sig)) :=
  Finset.mem_union_right _ (Finset.mem_map_of_mem trEmb (Finset.mem_univ (c, k)))

/-- Whose cell device `c`'s transfer number `k` credits: its own for a send, the next device's for a receive. -/
def payee (c : Dev nD) (k : Fin 12) : Dev nD := if k.val % 6 < 3 then c else nxt c

theorem payee_inj (k : Fin 12) (c c' : Dev nD) (h : payee c k = payee c' k) : c = c' := by
  unfold payee at h
  split at h
  · exact h
  · rw [← prv_nxt c, h, prv_nxt]

/-- Whose barrier device `c`'s unit number `d` credits. -/
def side (c : Dev nD) (d : Bool) : Dev nD := if d then prv c else nxt c

theorem side_inj (d : Bool) (c c' : Dev nD) (h : side c d = side c' d) : c = c' := by
  unfold side at h
  split at h
  · rw [← nxt_prv c, h, nxt_prv]
  · rw [← prv_nxt c, h, prv_nxt]

/-- The fourteen duties device `c` pays. -/
def duty (c : Dev nD) : Fin 12 ⊕ Bool → GSem nD τ sig × ℕ × Bool
  | .inl k => (cell (payee c k) k, 0, true)
  | .inr d => (barCell (side c d), 0, d)

theorem duty_inj : Function.Injective fun x : Dev nD × (Fin 12 ⊕ Bool) => duty x.1 x.2 := by
  rintro ⟨c, k | d⟩ ⟨c', k' | d'⟩ h
  · have hg : cell (payee c k) k = cell (payee c' k') k' := congrArg Prod.fst h
    obtain rfl : k = k' := osem_inj (congrArg Prod.snd hg)
    obtain rfl : c = c' := payee_inj k c c' (congrArg (fun g : GSem nD τ sig => g.1.1) hg)
    rfl
  · have hg : cell (payee c k) k = barCell (side c' d') := congrArg Prod.fst h
    exact absurd (congrArg Prod.snd hg) (osem_ne_bar k)
  · have hg : barCell (side c d) = cell (payee c' k') k' := congrArg Prod.fst h
    exact absurd (congrArg Prod.snd hg).symm (osem_ne_bar k')
  · have hg : barCell (side c d) = barCell (side c' d') := congrArg Prod.fst h
    obtain rfl : d = d' := congrArg (fun t : GSem nD τ sig × ℕ × Bool => t.2.2) h
    obtain rfl : c = c' := side_inj d c c' (congrArg (fun g : GSem nD τ sig => g.1.1) hg)
    rfl

/-- Every duty of every device. -/
def duties : Finset (GSem nD τ sig × ℕ × Bool) := Finset.univ.map ⟨_, duty_inj⟩

/-! ## What a device holds -/

variable (WQ : Dev nD → S768x512.Idx → Elt F .bf16) (WO : Dev nD → S512x768.Idx → Elt F .bf16)

/-- What every device may consult: the invariants of all cells under one naming, and that every barrier has begun. -/
def records (κ : GSem nD τ sig → ℕ) : sProp 𝕄 :=
  iprop((bigSep (barCells ∪ trCells) fun g => cellInv ER (rd WQ WO) (κ g) g) ∗ bigSep barCells fun g => reached ER g 0)

instance records_persistent (κ : GSem nD τ sig → ℕ) : BI.Persistent (records WQ WO κ) := by unfold records; infer_instance

theorem inv_at (κ : GSem nD τ sig → ℕ) {g : GSem nD τ sig} (hg : g ∈ (barCells ∪ trCells : Finset (GSem nD τ sig))) :
    records WQ WO κ ⊢ (cellInv ER (rd WQ WO) (κ g) g : sProp 𝕄) := by
  unfold records
  iintro ⟨H, -⟩
  iapply (show (bigSep (barCells ∪ trCells) fun g => (cellInv ER (rd WQ WO) (κ g) g : sProp 𝕄)) ⊢ cellInv ER (rd WQ WO) (κ g) g from bigSep_elim hg) $$ H

theorem begun_at (κ : GSem nD τ sig → ℕ) (c : Dev nD) : records WQ WO κ ⊢ (reached ER (barCell c) 0 : sProp 𝕄) := by
  unfold records
  iintro ⟨-, H⟩
  iapply (show (bigSep barCells fun g => (reached ER g 0 : sProp 𝕄)) ⊢ reached ER (barCell c) 0 from
    bigSep_elim (Finset.mem_map_of_mem barEmb (Finset.mem_univ c))) $$ H

/-- What device `c` alone holds: its place on its barrier, the rights to open its transfer cells, the tokens of its duties. -/
def linear (c : Dev nD) : sProp 𝕄 :=
  iprop(atPos ER (barCell c) 0 ∅ 0 ∗ (bigSep Finset.univ fun k : Fin 12 => openTok ER (cell c k))
    ∗ bigSep Finset.univ fun x : Fin 12 ⊕ Bool => dutyTok ER (duty c x).1 (duty c x).2.1 (duty c x).2.2)

/-- What device `c` is owed at launch. -/
def creds (c : Dev nD) : sProp 𝕄 :=
  iprop(cred (tallyAt (barCell c) () 2) ∗ cred (tallyAt (cell c 3) () (amt 3)) ∗ cred (tallyAt (cell c 9) () (amt 9)) ∗ cred (tallyAt (cell c 4) () (amt 4))
    ∗ cred (tallyAt (cell c 10) () (amt 10)) ∗ cred (tallyAt (cell c 5) () (amt 5)) ∗ cred (tallyAt (cell c 11) () (amt 11)))

/-- What device `c` carries from the launch to the kernel. -/
def carried (c : Dev nD) : sProp 𝕄 := iprop((∃ κ, records WQ WO κ ∗ linear c) ∗ creds c)

/-- What it enters the kernel with. -/
def entered (c : Dev nD) : sProp 𝕄 :=
  iprop(barKit WQ WO c ∗ sends WQ WO c ∗ recvs WQ WO c ∗ opened c ∗ levAts L lv)

/-! ## Opening -/

theorem open_all (κ : GSem nD τ sig → ℕ) (c : Dev nD) :
    iprop(records WQ WO κ ∗ bigSep Finset.univ fun k : Fin 12 => iprop(openTok ER (cell c k) ∗ semVal (cell c k) 0))
      ⊢ (|={Set.univ}=> bigSep Finset.univ fun k : Fin 12 => iprop(atPos ER (cell c k) 0 ∅ 0 ∗ reached ER (cell c k) 0) : sProp 𝕄) := by
  refine (bigSep_with_persistent (Ψ := fun k : Fin 12 => iprop(|={Set.univ}=> (atPos ER (cell c k) 0 ∅ 0 ∗ reached ER (cell c k) 0))) fun k _ => ?_).trans
    (bigSep_fupd Finset.univ fun k : Fin 12 => (iprop(atPos ER (cell c k) 0 ∅ 0 ∗ reached ER (cell c k) 0) : sProp 𝕄))
  iintro ⟨HR, Ho, Hv⟩
  iapply (Rounds.cell_open ER (rd WQ WO) (g := cell c k) (Set.mem_univ (κ (cell c k))))
  isplitl [HR]; · iapply (inv_at WQ WO κ (cell_mem c k)); iexact HR
  isplitl [Ho] <;> iassumption

theorem sendKit_intro (κ : GSem nD τ sig → ℕ) (c : Dev nD) (k₁ k₂ : Fin 12) (h₁ : payee c k₁ = c) (h₂ : payee c k₂ = nxt c) :
    iprop(records WQ WO κ ∗ dutyTok ER (cell (payee c k₁) k₁) 0 true ∗ reached ER (cell c k₁) 0 ∗ dutyTok ER (cell (payee c k₂) k₂) 0 true
      ∗ atPos ER (cell c k₁) 0 ∅ 0) ⊢ (sendKit WQ WO c k₁ k₂ : sProp 𝕄) := by
  rw [h₁, h₂]; unfold sendKit
  iintro ⟨#HR, Ht, Hr, Ht', Ha⟩
  iexists (κ (cell c k₁)), (κ (cell (nxt c) k₂))
  isplitr; · iapply (inv_at WQ WO κ (cell_mem c k₁)); iexact HR
  isplitr; · iapply (inv_at WQ WO κ (cell_mem (nxt c) k₂)); iexact HR
  isplitl [Ht]; · iexact Ht
  isplitl [Hr]; · iexact Hr
  isplitl [Ht'] <;> iassumption

theorem waitKit_intro (κ : GSem nD τ sig → ℕ) (c : Dev nD) (k : Fin 12) :
    iprop(records WQ WO κ ∗ cred (tallyAt (cell c k) () (amt k)) ∗ atPos ER (cell c k) 0 ∅ 0) ⊢ (waitKit WQ WO c k : sProp 𝕄) := by
  unfold waitKit
  iintro ⟨#HR, Hc, Ha⟩
  iexists (κ (cell c k))
  isplitr; · iapply (inv_at WQ WO κ (cell_mem c k)); iexact HR
  isplitl [Hc] <;> iassumption

theorem barKit_intro (κ : GSem nD τ sig → ℕ) (c : Dev nD) :
    iprop(records WQ WO κ ∗ dutyTok ER (barCell (side c true)) 0 true ∗ dutyTok ER (barCell (side c false)) 0 false
      ∗ cred (tallyAt (barCell c) () 2) ∗ atPos ER (barCell c) 0 ∅ 0) ⊢ (barKit WQ WO c : sProp 𝕄) := by
  rw [show side c true = prv c from rfl, show side c false = nxt c from rfl]; unfold barKit
  iintro ⟨#HR, Ht, Ht', Hc, Ha⟩
  iexists (κ (barCell c)), (κ (barCell (prv c))), (κ (barCell (nxt c)))
  isplitr; · iapply (inv_at WQ WO κ (bar_mem c)); iexact HR
  isplitr; · iapply (inv_at WQ WO κ (bar_mem (prv c))); iexact HR
  isplitr; · iapply (inv_at WQ WO κ (bar_mem (nxt c))); iexact HR
  isplitl [Ht]; · iexact Ht
  isplitr; · iapply (begun_at WQ WO κ (prv c)); iexact HR
  isplitl [Ht']; · iexact Ht'
  isplitr; · iapply (begun_at WQ WO κ (nxt c)); iexact HR
  isplitl [Hc] <;> iassumption

/-- The tokens of a device's duties, written out. -/
theorem duty_toks (c : Dev nD) :
    (bigSep Finset.univ fun x : Fin 12 ⊕ Bool => (dutyTok ER (duty c x).1 (duty c x).2.1 (duty c x).2.2 : sProp 𝕄))
      = iprop((bigSep Finset.univ fun k : Fin 12 => dutyTok ER (cell (payee c k) k) 0 true)
          ∗ (dutyTok ER (barCell (side c false)) 0 false ∗ dutyTok ER (barCell (side c true)) 0 true)) := by
  rw [bigSep_univ_sum]
  refine congrArg₂ (fun P Q : sProp 𝕄 => iprop(P ∗ Q)) rfl ?_
  rw [show (Finset.univ : Finset Bool) = {false, true} by decide, bigSep_insert (by decide), bigSep_singleton]; rfl

set_option maxHeartbeats 1000000 in
/-- AT THE KERNEL'S ENTRY the twelve transfer cells are opened. -/
theorem enter (c : Dev nD) : iprop(carried WQ WO c ∗ Pipeline.ownSems0 osem c ∗ levAts L lv) ⊢ (|={Set.univ}=> entered WQ WO c : sProp 𝕄) := by
  unfold carried linear creds entered sends recvs opened
  iintro ⟨⟨⟨%κ, #HR, HaB, Hop, Htok⟩, HcB, Hc3, Hc9, Hc4, Hc10, Hc5, Hc11⟩, Hz, #Hlev⟩
  ihave Hz := (Entails.of_eq (show (Pipeline.ownSems0 osem c : sProp 𝕄) = bigSep Finset.univ fun k : Fin 12 => semVal (cell c k) 0 from rfl)) $$ Hz
  ihave Htok := (Entails.of_eq (duty_toks c)) $$ Htok
  icases Htok with ⟨Htok, HtF, HtT⟩
  imod (open_all WQ WO κ c) $$ [Hop Hz] with Hall
  · isplitr; · iexact HR
    rw [bigSep_sep']
    isplitl [Hop] <;> iassumption
  imodintro
  ihave Hall := (Entails.of_eq (bigSep_sep' Finset.univ (fun k : Fin 12 => (atPos ER (cell c k) 0 ∅ 0 : sProp 𝕄)) fun k => reached ER (cell c k) 0)) $$ Hall
  icases Hall with ⟨Hat, Hre⟩
  ihave Hat := (Entails.of_eq (bigSep_twelve fun k : Fin 12 => (atPos ER (cell c k) 0 ∅ 0 : sProp 𝕄))) $$ Hat
  ihave Hre := (Entails.of_eq (bigSep_twelve fun k : Fin 12 => (reached ER (cell c k) 0 : sProp 𝕄))) $$ Hre
  ihave Htok := (Entails.of_eq (bigSep_twelve fun k : Fin 12 => (dutyTok ER (cell (payee c k) k) 0 true : sProp 𝕄))) $$ Htok
  icases Hat with ⟨Ha0, Ha1, Ha2, Ha3, Ha4, Ha5, Ha6, Ha7, Ha8, Ha9, Ha10, Ha11⟩
  icases Hre with ⟨#Hr0, #Hr1, #Hr2, #Hr3, #Hr4, #Hr5, #Hr6, #Hr7, #Hr8, #Hr9, #Hr10, #Hr11⟩
  icases Htok with ⟨Ht0, Ht1, Ht2, Ht3, Ht4, Ht5, Ht6, Ht7, Ht8, Ht9, Ht10, Ht11⟩
  isplitl [HaB HtT HtF HcB]
  · iapply (barKit_intro WQ WO κ c)
    isplitr; · iexact HR
    isplitl [HtT]; · iexact HtT
    isplitl [HtF]; · iexact HtF
    isplitl [HcB] <;> iassumption
  isplitl [Ht0 Ht1 Ht2 Ht3 Ht4 Ht5 Ht6 Ht7 Ht8 Ht9 Ht10 Ht11 Ha0 Ha1 Ha2 Ha6 Ha7 Ha8]
  · isplitl [Ht0 Ht3 Ha0]
    · iapply (sendKit_intro WQ WO κ c 0 3 rfl rfl)
      isplitr; · iexact HR
      isplitl [Ht0]; · iexact Ht0
      isplitr; · iexact Hr0
      isplitl [Ht3] <;> iassumption
    isplitl [Ht6 Ht9 Ha6]
    · iapply (sendKit_intro WQ WO κ c 6 9 rfl rfl)
      isplitr; · iexact HR
      isplitl [Ht6]; · iexact Ht6
      isplitr; · iexact Hr6
      isplitl [Ht9] <;> iassumption
    isplitl [Ht1 Ht4 Ha1]
    · iapply (sendKit_intro WQ WO κ c 1 4 rfl rfl)
      isplitr; · iexact HR
      isplitl [Ht1]; · iexact Ht1
      isplitr; · iexact Hr1
      isplitl [Ht4] <;> iassumption
    isplitl [Ht7 Ht10 Ha7]
    · iapply (sendKit_intro WQ WO κ c 7 10 rfl rfl)
      isplitr; · iexact HR
      isplitl [Ht7]; · iexact Ht7
      isplitr; · iexact Hr7
      isplitl [Ht10] <;> iassumption
    isplitl [Ht2 Ht5 Ha2]
    · iapply (sendKit_intro WQ WO κ c 2 5 rfl rfl)
      isplitr; · iexact HR
      isplitl [Ht2]; · iexact Ht2
      isplitr; · iexact Hr2
      isplitl [Ht5] <;> iassumption
    · iapply (sendKit_intro WQ WO κ c 8 11 rfl rfl)
      isplitr; · iexact HR
      isplitl [Ht8]; · iexact Ht8
      isplitr; · iexact Hr8
      isplitl [Ht11] <;> iassumption
  isplitl [Hc3 Hc9 Hc4 Hc10 Hc5 Hc11 Ha3 Ha9 Ha4 Ha10 Ha5 Ha11]
  · isplitl [Hc3 Ha3]
    · iapply (waitKit_intro WQ WO κ c 3); isplitr; · iexact HR
      isplitl [Hc3] <;> iassumption
    isplitl [Hc9 Ha9]
    · iapply (waitKit_intro WQ WO κ c 9); isplitr; · iexact HR
      isplitl [Hc9] <;> iassumption
    isplitl [Hc4 Ha4]
    · iapply (waitKit_intro WQ WO κ c 4); isplitr; · iexact HR
      isplitl [Hc4] <;> iassumption
    isplitl [Hc10 Ha10]
    · iapply (waitKit_intro WQ WO κ c 10); isplitr; · iexact HR
      isplitl [Hc10] <;> iassumption
    isplitl [Hc5 Ha5]
    · iapply (waitKit_intro WQ WO κ c 5); isplitr; · iexact HR
      isplitl [Hc5] <;> iassumption
    · iapply (waitKit_intro WQ WO κ c 11); isplitr; · iexact HR
      isplitl [Hc11] <;> iassumption
  isplitr
  · isplitr; · iexact Hr3
    isplitr; · iexact Hr9
    isplitr; · iexact Hr4
    isplitr; · iexact Hr10
    isplitr; · iexact Hr5
    iexact Hr11
  iexact Hlev

end Cert.RingProof

end
-- ==== Proof.Credits.lean ====
/-
  What the other devices will pay into a device's semaphores, as the credit it holds at launch.
-/
module

public import proofs.«01_k».proof.Proof.Ghost

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem owe_apply (d : Dev nD) (g : GSem nD τ sig) : ∀ n : ℕ, owe d n g () = ∑ k ∈ Finset.range n, if payCell d k = g then payAmt k else 0
  | 0 => rfl
  | n + 1 => by
    rw [Finset.sum_range_succ, ← owe_apply d g n]
    show (owe d n + tallyAt (payCell d n) () (payAmt n)) g () = _
    rw [Pi.add_apply, Finsupp.add_apply, tallyAt_apply]
    refine congrArg _ ?_
    by_cases h : payCell d n = g
    · rw [if_pos ⟨h.symm, rfl⟩, if_pos h]
    · rw [if_neg (fun hh => h hh.1.symm), if_neg h]

theorem owed_apply (d : Dev nD) (g : GSem nD τ sig) : O₀ d g () = ∑ k : Fin 8, if payCell d k.val = g then payAmt k.val else 0 :=
  (owe_apply d g 8).trans (Finset.sum_range _)

/-- The launch credit of a semaphore is what all devices owe it. -/
theorem launch_of (g : GSem nD τ sig) (N : ℕ) (h : ∑ d : Dev nD, O₀ d g () = N) :
    tallyOn g (launchCredit (Pipeline.owing O₀) 0 g) = (tallyAt g () N : CellTallies nD τ sig Unit) := by
  unfold tallyAt; refine congrArg _ (Finsupp.ext fun u => ?_); cases u
  rw [Pipeline.launchCredit_owing, Finsupp.single_eq_same]; exact h

/-- One device pays a receive semaphore, once. -/
theorem owed_once (g : GSem nD τ sig) (n : Fin 8) (d₀ : Dev nD) (h : ∀ (d : Dev nD) (k : Fin 8), payCell d k.val = g ↔ k = n ∧ d = d₀) :
    ∑ d : Dev nD, O₀ d g () = payAmt n.val := by
  rw [Finset.sum_eq_single d₀ (fun d _ hd => ?_) (fun h => absurd (Finset.mem_univ _) h), owed_apply, Finset.sum_eq_single n (fun k _ hk => ?_) (fun h => absurd (Finset.mem_univ _) h)]
  · rw [if_pos ((h d₀ n).mpr ⟨rfl, rfl⟩)]
  · rw [if_neg fun hh => hk ((h _ _).mp hh).1]
  · rw [owed_apply]; exact Finset.sum_eq_zero fun k _ => if_neg fun hh => hd ((h _ _).mp hh).2

/-- Both neighbours pay a barrier, one each. -/
theorem owed_bar (c : Dev nD) : ∑ d : Dev nD, O₀ d (barCell c) () = 2 := by
  have h : ∀ (d c : Dev nD) (k : Fin 8), (if payCell d k.val = barCell c then payAmt k.val else 0)
      = if (k = 6 ∧ d = prv c) ∨ (k = 7 ∧ d = nxt c) then 1 else 0 := fun d c k => by
    have hh : payCell d k.val = barCell c ↔ (k = 6 ∧ d = prv c) ∨ (k = 7 ∧ d = nxt c) := by revert d c k; decide
    by_cases hk : payCell d k.val = barCell c
    · rw [if_pos hk, if_pos (hh.mp hk)]
      rcases hh.mp hk with ⟨rfl, -⟩ | ⟨rfl, -⟩ <;> rfl
    · rw [if_neg hk, if_neg fun h' => hk (hh.mpr h')]
  rw [Finset.sum_congr rfl fun d _ => (owed_apply d (barCell c)).trans (Finset.sum_congr rfl fun k _ => h d c k)]
  revert c; decide

theorem pay_wq0 : ∀ (c d : Dev nD) (k : Fin 8), payCell d k.val = cell c 3 ↔ k = 5 ∧ d = prv c := by decide
theorem pay_wq1 : ∀ (c d : Dev nD) (k : Fin 8), payCell d k.val = cell c 4 ↔ k = 3 ∧ d = prv c := by decide
theorem pay_wq2 : ∀ (c d : Dev nD) (k : Fin 8), payCell d k.val = cell c 5 ↔ k = 1 ∧ d = prv c := by decide
theorem pay_wo0 : ∀ (c d : Dev nD) (k : Fin 8), payCell d k.val = cell c 9 ↔ k = 4 ∧ d = prv c := by decide
theorem pay_wo1 : ∀ (c d : Dev nD) (k : Fin 8), payCell d k.val = cell c 10 ↔ k = 2 ∧ d = prv c := by decide
theorem pay_wo2 : ∀ (c d : Dev nD) (k : Fin 8), payCell d k.val = cell c 11 ↔ k = 0 ∧ d = prv c := by decide

/-- The semaphores of a device that others pay. -/
def paid : Finset (SemLoc sig) := {.reg barS, osem 3, osem 9, osem 4, osem 10, osem 5, osem 11}

theorem creds_intro (c : Dev nD) : (Pipeline.launchCred O₀ c : sProp 𝕄) ⊢ creds c := by
  unfold Pipeline.launchCred creds
  refine (bigSep_subset (Finset.subset_univ paid)).trans ?_
  unfold paid
  rw [bigSep_insert (by decide), bigSep_insert (by decide), bigSep_insert (by decide), bigSep_insert (by decide), bigSep_insert (by decide), bigSep_insert (by decide), bigSep_singleton]
  rw [launch_of _ _ (owed_bar c), launch_of _ _ (owed_once _ _ _ (pay_wq0 c)), launch_of _ _ (owed_once _ _ _ (pay_wo0 c)), launch_of _ _ (owed_once _ _ _ (pay_wq1 c)),
    launch_of _ _ (owed_once _ _ _ (pay_wo1 c)), launch_of _ _ (owed_once _ _ _ (pay_wq2 c)), launch_of _ _ (owed_once _ _ _ (pay_wo2 c))]
  exact Entails.refl _

end Cert.RingProof

end
-- ==== Proof.Region.lean ====
/-
  The kernel call of the program: what its windows hold before and after, its body as the pipeline runs it, and what it leaves.
-/
module

public import proofs.«01_k».proof.Proof.Ghost
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.Frame
public import Idealize.ShloMosaic.Lib.Pipeline.FrameBody

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The blocks the kernel works on, as the host code leaves them -/

def wqAt (c : Dev nD) : S768x512.Idx → Elt F .bf16 := V1 m c main_arg1
def woAt (c : Dev nD) : S512x768.Idx → Elt F .bf16 := V1 m c main_arg4
def xAt (c : Dev nD) : S2x512x768.Idx → Elt F .bf16 := V1 m c main_arg0
def kAt (c : Dev nD) : S4x2x8x512x64.Idx → Elt F .bf16 := V1 m c main_v11
def vAt (c : Dev nD) : S4x2x8x512x64.Idx → Elt F .bf16 := V1 m c main_v18
def outBefore (c : Dev nD) : S2x512x768.Idx → Elt F .f32 := V1 m c main_v19

/-- What device `c` computes. -/
def res (c : Dev nD) : S2x512x768.Idx → Elt F .f32 := result c (xAt m c) (kAt m c) (vAt m c) (trav (wqAt m) c) (trav (woAt m) c)

/-- Device `c`'s buffers after the kernel. -/
def VN (c : Dev nD) : Valuation τ sig (Elt F) := Function.update (V1 m c) main_v19 (res m c)

theorem VN_out (c : Dev nD) : VN m c (Proc.devRef .tc main_v19) = res m c := Function.update_self ..
theorem VN_of (c : Dev nD) (r : Ref sig .tc) (h : r ≠ main_v19) : VN m c (Proc.devRef .tc r) = V1 m c (Proc.devRef .tc r) :=
  Function.update_of_ne (StableHlo.devRef_ne_of_ne h) ..

/-! ## The data of the call -/

def before (c : Dev nD) : sProp 𝕄 := iprop((∃ r, prngReg c r) ∗ entered (wqAt m) (woAt m) c ∗ slots c)
def done (c : Dev nD) : sProp 𝕄 := iprop((∃ r, prngReg c r) ∗ semVal (barCell c) 0 ∗ zeros c ∗ slots c)

def dat0 (c : Dev nD) : Dat τ (Elt F) Unit ℕ UU ℕ cfg0 c where
  A w := V1 m c (Proc.devRef .tc (Pipeline.arrRef spec0 w))
  after w _ := match w with
    | 0 => xAt m c
    | 1 => wqAt m c
    | 2 => kAt m c
    | 3 => vAt m c
    | 4 => woAt m c
    | 5 => res m c
    | ⟨_ + 6, h⟩ => absurd h (Nat.not_lt.2 (Nat.le_add_left _ _))
  Φ t := if t.val = 0 then before m c else done c
  q _ := fullShare
  owed t := if t.val = 0 then O₀ c else 0

def pdats : (p : Fin 1) → (c : Dev nD) → Dat τ (Elt F) Unit ℕ UU ℕ (cfgs p) c
  | 0 => dat0 m

theorem owed_first (c : Dev nD) : (dat0 m c).owed t0_0.castSucc = O₀ c := by
  show (if (t0_0.castSucc).val = 0 then O₀ c else 0) = O₀ c; exact if_pos rfl
theorem owed_last (c : Dev nD) : (dat0 m c).owed t0_0.succ = 0 := by
  show (if (t0_0.succ).val = 0 then O₀ c else 0) = 0; exact if_neg (by decide)

theorem owes_in (c : Dev nD) : (dat0 m c).owesAt () t0_0.castSucc ⊢ (owing c 8 : sProp 𝕄) := by
  unfold Dat.owesAt Pipeline.owesWithin owing; rw [owed_first]
  iintro ⟨%W, -, HO⟩; iexists W; iexact HO
theorem owes_out (c : Dev nD) : (owing c 0 : sProp 𝕄) ⊢ (dat0 m c).owesAt () t0_0.succ := by
  unfold Dat.owesAt Pipeline.owesWithin Dat.bound owing; rw [owed_last]
  iintro ⟨%W, HO⟩; iexists W; isplitr; · ipureintro; exact fun _ _ => Or.inl trivial
  iexact HO

/-! ## What the windows hold when the body starts -/

/-- The block a whole-array window fetches is the array. -/
theorem whole_fill {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (d : s.Idx → Elt F e) (f : arr.view.ty.Contents (Elt F)) :
    (Pipeline.Window.whole arr isOut sync stage sem harr hstage).fill (Pipeline.Grid.none.coords t) d
      (((Pipeline.Window.whole arr isOut sync stage sem harr hstage).blk t).view.read (Elt F) f) = arr.view.read (Elt F) f := by
  funext j
  unfold Pipeline.Window.fill
  rw [dif_pos (((Pipeline.Window.whole arr isOut sync stage sem harr hstage).moved_iff _ j).mpr fun a => (j a).isLt)]
  show arr.view.read (Elt F) f _ = _
  congr 1
  funext a
  apply Fin.ext
  show 0 * s.size a + 1 * (j a).val = (j a).val
  omega

theorem before0 (c : Dev nD) (d) : (dat0 m c).before 0 t0_0 d = xAt m c :=
  ((dat0 m c).before_fetched 0 t0_0 (fetch0_0 _) d).trans (whole_fill (Memref.whole main_arg0) false false (stage0_0 0) (sem0_0 0) (Memref.isWhole_whole _) (hstage0_0 0) t0_0 d (xAt m c))
theorem before1 (c : Dev nD) (d) : (dat0 m c).before 1 t0_0 d = wqAt m c :=
  ((dat0 m c).before_fetched 1 t0_0 (fetch0_1 _) d).trans (whole_fill (Memref.whole main_arg1) false false (stage0_1 0) (sem0_1 0) (Memref.isWhole_whole _) (hstage0_1 0) t0_0 d (wqAt m c))
theorem before2 (c : Dev nD) (d) : (dat0 m c).before 2 t0_0 d = kAt m c :=
  ((dat0 m c).before_fetched 2 t0_0 (fetch0_2 _) d).trans (whole_fill (Memref.whole main_v11) false false (stage0_2 0) (sem0_2 0) (Memref.isWhole_whole _) (hstage0_2 0) t0_0 d (kAt m c))
theorem before3 (c : Dev nD) (d) : (dat0 m c).before 3 t0_0 d = vAt m c :=
  ((dat0 m c).before_fetched 3 t0_0 (fetch0_3 _) d).trans (whole_fill (Memref.whole main_v18) false false (stage0_3 0) (sem0_3 0) (Memref.isWhole_whole _) (hstage0_3 0) t0_0 d (vAt m c))
theorem before4 (c : Dev nD) (d) : (dat0 m c).before 4 t0_0 d = woAt m c :=
  ((dat0 m c).before_fetched 4 t0_0 (fetch0_4 _) d).trans (whole_fill (Memref.whole main_arg4) false false (stage0_4 0) (sem0_4 0) (Memref.isWhole_whole _) (hstage0_4 0) t0_0 d (woAt m c))
theorem before5 (c : Dev nD) (d) : (dat0 m c).before 5 t0_0 d = d :=
  (dat0 m c).before_out_reset 5 rfl t0_0 (.inl rfl) d

/-- The output array once the call is over. -/
theorem out_after (c : Dev nD) : (dat0 m c).arrAt 5 cfg0.N = res m c := by
  rw [show cfg0.N = t0_0.val + 1 from rfl, (dat0 m c).arrAt_succ 5 t0_0, if_pos (flush0_5 _)]
  exact Memref.write_access_unit_zero_univ (Elt F) main_v19 (off := fun a => 0 * S2x512x768.size a) (funext fun a => Nat.zero_mul _) _ _ _

/-! ## The body as the pipeline runs it -/

/-- A staged block held whole, as the body names it. -/
theorem own_win {s : Shape} {e : EltTy} (v : Memref sig .tc .vmem s e) (c : Dev nD) (f : Buf (Elt F) (v.view.loc (c : Thread nD τ))) :
    (winAt v c fullShare f : sProp 𝕄) = ((v.view.loc (c : Thread nD τ)) ↦{fullShare} f) := rfl

set_option maxHeartbeats 1000000 in
theorem body_obl (c : Dev nD) : BodyObligation (dat0 m c) defs₀ 𝒱₀ () Set.univ := fun t => by
  obtain rfl := fin_N0 t
  rw [bigSep_W0, bigSep_W0]
  rw [show (dat0 m c).Φ t0_0.castSucc = before m c from rfl, show (dat0 m c).Φ t0_0.succ = done c from rfl]
  show _ ⊢ run c (cc0_body xIn (hstage0_0 0) qIn (hstage0_1 0) kIn (hstage0_2 0) vIn (hstage0_3 0) oIn (hstage0_4 0) outM (hstage0_5 0)
    qBuf (Memref.isWhole_whole _) oBuf (Memref.isWhole_whole _) cc0_scratch2 cc0_scratch3 cc0_scratch4 cc0_scratch5) _
  iintro ⟨HΦ, HO, ⟨%d0, H0⟩, ⟨%d1, H1⟩, ⟨%d2, H2⟩, ⟨%d3, H3⟩, ⟨%d4, H4⟩, ⟨%d5, H5⟩⟩
  ihave HO' := (owes_in m c) $$ HO
  ihave W0 := (Entails.of_eq (show _ = winAt xIn c fullShare (xAt m c) by rw [before0]; exact owns_whole ..)) $$ H0
  ihave W1 := (Entails.of_eq (show _ = winAt qIn c fullShare (wqAt m c) by rw [before1]; exact owns_whole ..)) $$ H1
  ihave W2 := (Entails.of_eq (show _ = winAt kIn c fullShare (kAt m c) by rw [before2]; exact owns_whole ..)) $$ H2
  ihave W3 := (Entails.of_eq (show _ = winAt vIn c fullShare (vAt m c) by rw [before3]; exact owns_whole ..)) $$ H3
  ihave W4 := (Entails.of_eq (show _ = winAt oIn c fullShare (woAt m c) by rw [before4]; exact owns_whole ..)) $$ H4
  ihave W5 := (Entails.of_eq (show _ = winAt outM c fullShare d5 by rw [before5]; exact owns_whole ..)) $$ H5
  unfold before entered
  icases HΦ with ⟨Hp, ⟨Hb, Hs, Hr, Ho, Hl⟩, Hsl⟩
  iapply (body_run (wqAt m) (woAt m) c (xAt m c) (kAt m c) (vAt m c) d5 _ (hstage0_0 0) (hstage0_1 0) (hstage0_2 0) (hstage0_3 0) (hstage0_4 0) (hstage0_5 0)
    (Memref.isWhole_whole _) (Memref.isWhole_whole _))
  isplitr [Hp]
  · unfold bodyPre wins
    isplitl [Hb]; · iexact Hb
    isplitl [Hs]; · iexact Hs
    isplitl [Hr]; · iexact Hr
    isplitl [Ho]; · iexact Ho
    isplitl [Hl]; · iexact Hl
    isplitr [Hsl HO']
    · isplitl [W0]; · iexact W0
      isplitl [W1]; · iexact W1
      isplitl [W2]; · iexact W2
      isplitl [W3]; · iexact W3
      isplitl [W4]; · iexact W4
      iexact W5
    isplitl [Hsl]; · iexact Hsl
    iexact HO'
  iintro Hpost
  unfold bodyPost wins done
  icases Hpost with ⟨Hb0, Hz, ⟨W0, W1, W2, W3, W4, W5⟩, Hsl, HO⟩
  isplitl [Hp Hb0 Hz Hsl]
  · isplitl [Hp]; · iexact Hp
    isplitl [Hb0]; · iexact Hb0
    isplitl [Hz]; · iexact Hz
    iexact Hsl
  isplitl [HO]; · iapply (owes_out m c); iexact HO
  isplitl [W0]; · iapply (Entails.of_eq (show winAt xIn c fullShare (xAt m c) = _ from (owns_whole ..).symm)) $$ W0
  isplitl [W1]; · iapply (Entails.of_eq (show winAt qIn c fullShare (wqAt m c) = _ from (owns_whole ..).symm)) $$ W1
  isplitl [W2]; · iapply (Entails.of_eq (show winAt kIn c fullShare (kAt m c) = _ from (owns_whole ..).symm)) $$ W2
  isplitl [W3]; · iapply (Entails.of_eq (show winAt vIn c fullShare (vAt m c) = _ from (owns_whole ..).symm)) $$ W3
  isplitl [W4]; · iapply (Entails.of_eq (show winAt oIn c fullShare (woAt m c) = _ from (owns_whole ..).symm)) $$ W4
  iapply (Entails.of_eq (show winAt outM c fullShare (result c (xAt m c) (kAt m c) (vAt m c) (trav (wqAt m) c) (trav (woAt m) c)) = _ from (owns_whole ..).symm)) $$ W5

/-! ## The call as a segment of the program -/

/-- What device `c` keeps of the call: its barrier's counter, at zero. -/
def kept (c : Dev nD) : sProp 𝕄 := semVal (barCell c) 0

/-- The buffers of the program that the call's windows do not range over. -/
abbrev others : Finset (DevRef τ sig) := Pipeline.ucRefs τ sig \ Pipeline.arrRefs spec0

theorem call_cut (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · obtain ⟨k, hk, rfl⟩ := owe_pos c 8 g i h
    refine ⟨?_, ?_⟩
    · unfold L; rw [if_pos (payCell_tc c k)]; exact Finset.mem_singleton_self _
    · rw [payCell_lv]; interval_cases k <;> decide
  · exact absurd h (Nat.lt_irrefl 0)

theorem call_in (c : Dev nD) : iprop(Pipeline.scopedRest cfg0.spec c ∗ (∃ r, prngReg c r) ∗ StableHlo.held (c.tc : Thread nD τ) ∅ (V1 m c) ∗ entered (wqAt m) (woAt m) c)
    ⊢ (dat0 m c).Φ 0 := by
  rw [show (dat0 m c).Φ 0 = before m c from rfl]
  unfold before
  iintro ⟨Hs, Hp, -, He⟩
  isplitl [Hp]; · iexact Hp
  isplitl [He]; · iexact He
  iapply (slots_of_scratch c)
  iapply (Entails.of_eq (scopedRest0_eq c)) $$ Hs

theorem call_out (c : Dev nD) : (dat0 m c).Φ (Fin.last cfg0.N)
    ⊢ iprop(Pipeline.scopedRest cfg0.spec c ∗ (∃ r, prngReg c r) ∗ StableHlo.held (c.tc : Thread nD τ) ∅ (VN m c) ∗ Pipeline.ownSems0 osem c ∗ kept c) := by
  rw [show (dat0 m c).Φ (Fin.last cfg0.N) = done c from rfl]
  unfold done kept
  iintro ⟨Hp, Hb, Hz, Hs⟩
  isplitl [Hs]
  · iapply (Entails.of_eq (scopedRest0_eq c).symm)
    iapply (scratch_of_slots c) $$ Hs
  isplitl [Hp]; · iexact Hp
  isplitr; · unfold StableHlo.held; rw [BI.bigSep_empty]; iempintro
  isplitl [Hz]; · iapply (Entails.of_eq (show zeros c = Pipeline.ownSems0 osem c from rfl)) $$ Hz
  iexact Hb

theorem others_same (c : Dev nD) : ∀ b ∈ others \ ∅, VN m c b = V1 m c b := fun b hb => by
  rw [Finset.sdiff_empty] at hb
  refine Function.update_of_ne (fun h => (Finset.mem_sdiff.mp hb).2 ?_) ..
  rw [h]; exact (by decide : Proc.devRef .tc main_v19 ∈ (Pipeline.arrRefs spec0 : Finset (DevRef τ sig)))

theorem arrays_after (c : Dev nD) (w : Fin 6) : (dat0 m c).arrAt w cfg0.N = VN m c (Proc.devRef .tc (Pipeline.arrRef spec0 w)) := by
  match w with
  | 0 => exact ((dat0 m c).arrAt_in 0 rfl _).trans (VN_of m c main_arg0 (by decide)).symm
  | 1 => exact ((dat0 m c).arrAt_in 1 rfl _).trans (VN_of m c main_arg1 (by decide)).symm
  | 2 => exact ((dat0 m c).arrAt_in 2 rfl _).trans (VN_of m c main_v11 (by decide)).symm
  | 3 => exact ((dat0 m c).arrAt_in 3 rfl _).trans (VN_of m c main_v18 (by decide)).symm
  | 4 => exact ((dat0 m c).arrAt_in 4 rfl _).trans (VN_of m c main_arg4 (by decide)).symm
  | 5 => exact (out_after m c).trans (VN_out m c).symm

set_option backward.isDefEq.respectTransparency.types false in
def call : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (body_obl m c).loose)
    (fun _ => 0) O₀ (fun c => (owed_first m c).trans (zero_add _).symm) (owed_last m) (fun _ => rfl)
    (fun c w => (ite_self _))
    (V1 m) (VN m) (others_same m)
    (carried (wqAt m) (woAt m)) kept (entered (wqAt m) (woAt m)) kept (enter (wqAt m) (woAt m)) (call_in m) (call_out m)
    (fun c => by iintro H; imodintro; iexact H)
    (fun _ => 0)
    ⟨fun c w s => by rw [L_tc]; exact Finset.mem_singleton_self _,
      (by decide : ∀ (_c : Dev nD) (w : Fin 6) (s : Fin (win0 w).nbuf), semLv (.dma ((win0 w).sem s)) ≤ 0), call_cut m⟩
    (fun _ => iprop(emp)) (fun _ _ => rfl) (arrays_after m)

end Cert.RingProof

end
-- ==== Proof.Launch.lean ====
/-
  The launch: the cells are funded, the duties' tokens dealt, and the program run from them.
-/
module

public import proofs.«01_k».proof.Proof.Credits
public import proofs.«01_k».proof.Proof.Region

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The ghost state the launch starts from: the staging cells' beside the ring's. -/
def u₀ : UU :=
  (initOf (Pipeline.cells cfgs cellOf_inj) (Pipeline.launchToks cfgs cellOf_inj), launchOf barCells trCells duties)

/-- The ring's part of it, held by device 0 until it is dealt. -/
def start (c : Dev nD) : sProp 𝕄 := if c = 0 then BI.own (ER (launchOf barCells trCells duties)) else iprop(emp)

theorem start_all : bigSep Finset.univ (start (F := F)) = BI.own (ER (launchOf barCells trCells duties)) := by
  rw [bigSep_univ_at _ (0 : Dev nD), bigSep_congr (s := Finset.univ.erase (0 : Dev nD)) (Ψ := fun _ => (BI.emp : sProp 𝕄))
      fun c hc => by unfold start; rw [if_neg (Finset.ne_of_mem_erase hc)]; rfl, BI.bigSep_emp_const]
  unfold start; rw [if_pos rfl]
  exact BI.equiv_iff.mp sep_emp

/-- What a device carries beside its buffers from the launch to the kernel. -/
def rest (c : Dev nD) : sProp 𝕄 :=
  iprop((∃ r, prngReg c r) ∗ carried (wqAt m) (woAt m) c ∗ ∃ W, owes (c : Thread nD τ) (O₀ c) W)

abbrev first (c : Dev nD) : sProp 𝕄 := iprop(StableHlo.held (c : Thread nD τ) (Pipeline.ucRefs τ sig) (V0 m c) ∗ rest m c)
abbrev last (c : Dev nD) : sProp 𝕄 := iprop(StableHlo.held (c : Thread nD τ) (Pipeline.ucRefs τ sig) (VN m c) ∗ kept c)

/-- A device's launch holdings that are not the ring's ghost state. -/
def plain (c : Dev nD) : sProp 𝕄 :=
  iprop(StableHlo.held (c : Thread nD τ) (Pipeline.ucRefs τ sig) (V0 m c) ∗ creds c ∗ owes (c : Thread nD τ) (O₀ c) ∅ ∗ ∃ r, prngReg c r)

theorem first_intro (κ : GSem nD τ sig → ℕ) (c : Dev nD) : iprop(records (wqAt m) (woAt m) κ ∗ (linear c ∗ plain m c)) ⊢ first m c := by
  unfold plain first rest carried
  iintro ⟨#HR, Hl, Hh, Hc, HO, Hp⟩
  isplitl [Hh]; · iexact Hh
  isplitl [Hp]; · iexact Hp
  isplitr [HO]
  · isplitl [Hl]
    · iexists κ; isplitr; · iexact HR
      iexact Hl
    iexact Hc
  iexists ∅; iexact HO

theorem counters (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem holdings (c : Dev nD) :
    iprop(unscopedBufs c (fun b => m ((c : Thread nD τ).loc b)) ∗ unscopedSems0 c ∗ owes (c : Thread nD τ) (O₀ c) ∅ ∗ Pipeline.launchCred O₀ c ∗ prngReg c (ρ c) ∗ start c)
      ⊢ (iprop(plain m c ∗ (semVal (barCell c) 0 ∗ start c)) : sProp 𝕄) := by
  rw [show unscopedBufs c (fun b => m ((c : Thread nD τ).loc b)) = StableHlo.held (c : Thread nD τ) (Pipeline.ucRefs τ sig) (V0 m c) from Pipeline.unscopedBufs_held c (V0 m c),
    counters]
  unfold plain
  iintro ⟨Hh, Hus, HO, Hcr, Hp, HG⟩
  isplitr [Hus HG]
  · isplitl [Hh]; · iexact Hh
    isplitl [Hcr]; · iapply (creds_intro c) $$ Hcr
    isplitl [HO]; · iexact HO
    iexists (ρ c); iexact Hp
  isplitl [Hus] <;> iassumption

theorem bars_eq (Φ : GSem nD τ sig → sProp 𝕄) : bigSep barCells Φ = bigSep Finset.univ fun c : Dev nD => Φ (barCell c) := bigSep_map barEmb
theorem trs_eq : bigSep trCells (fun g => (openTok ER g : sProp 𝕄)) = bigSep Finset.univ fun c : Dev nD => bigSep Finset.univ fun k : Fin 12 => openTok ER (cell c k) := by
  rw [bigSep_map, bigSep_univ_prod]; rfl
theorem duties_eq : bigSep duties (fun x => (dutyTok ER x.1 x.2.1 x.2.2 : sProp 𝕄))
    = bigSep Finset.univ fun c : Dev nD => bigSep Finset.univ fun x : Fin 12 ⊕ Bool => dutyTok ER (duty c x).1 (duty c x).2.1 (duty c x).2.2 := by
  unfold duties; rw [bigSep_map, bigSep_univ_prod]; rfl

theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ start c)) ∗ levAts L lv)
      ⊢ (|={Set.univ}=> bigSep Finset.univ (first m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ start c))
      ⊢ (bigSep Finset.univ fun c : Dev nD => iprop(plain m c ∗ (semVal (barCell c) 0 ∗ start c)) : sProp 𝕄) from bigSep_mono fun c _ => holdings m ρ c) $$ H
  ihave H := (Entails.of_eq (bigSep_sep' _ _ _)) $$ H; icases H with ⟨HB, H⟩
  ihave H := (Entails.of_eq (bigSep_sep' _ _ _)) $$ H; icases H with ⟨Hv, HG⟩
  ihave Hu := (Entails.of_eq (start_all (F := F))) $$ HG
  imod (Rounds.fund_launch ER (rd (wqAt m) (woAt m)) cells_disjoint (fun g _ h => h) duties) $$ [Hv Hu] with ⟨%κ, -, #Hinv, #Hr, Hat, Hopen, Htok⟩
  · isplitl [Hv]
    · iapply (Entails.of_eq (bars_eq fun g => (semVal g 0 : sProp 𝕄)).symm) $$ Hv
    · iexact Hu
  imodintro
  iapply (bigSep_with_persistent (R := records (wqAt m) (woAt m) κ) (Φ := fun c => iprop(linear c ∗ plain m c)) fun c _ => first_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply (Entails.of_eq (bars_eq fun g => (atPos ER g 0 ∅ 0 : sProp 𝕄))) $$ Hat
    iapply (Entails.of_eq (bigSep_sep' _ _ _).symm); isplitl [Hopen]; · iapply (Entails.of_eq (trs_eq (F := F))) $$ Hopen
    iapply (Entails.of_eq (duties_eq (F := F))) $$ Htok
  · iexact HB

/-! ## The call's ends -/

theorem call_pre (c : Dev nD) : iprop(StableHlo.held (c : Thread nD τ) (Pipeline.ucRefs τ sig) (V1 m c) ∗ rest m c) ⊢ (call m).pre c := by
  show _ ⊢ iprop(StableHlo.held (c.tc : Thread nD τ) (Pipeline.arrRefs spec0) (V1 m c) ∗ (∃ r, prngReg c r)
    ∗ (StableHlo.held (c.tc : Thread nD τ) others (V1 m c) ∗ emp) ∗ carried (wqAt m) (woAt m) c ∗ ∃ Wd, owes (c : Thread nD τ) (0 + O₀ c) Wd)
  rw [StableHlo.held_sub_split (c.tc : Thread nD τ) (Pipeline.arrRefs_sub_ucRefs spec0 (by decide)) (V1 m c), zero_add]
  unfold rest
  iintro ⟨⟨Ha, Hr⟩, Hp, Hc, HO⟩
  isplitl [Ha]; · iexact Ha
  isplitl [Hp]; · iexact Hp
  isplitl [Hr]
  · isplitl [Hr]; · iexact Hr
    iempintro
  isplitl [Hc] <;> iassumption

theorem call_post (c : Dev nD) : (call m).post c ⊢ iprop(last m c ∗ ∃ W, owes (c : Thread nD τ) (0 : CellTallies nD τ sig Unit) W) := by
  show iprop(StableHlo.held (c.tc : Thread nD τ) (Pipeline.arrRefs spec0) (VN m c) ∗ (∃ r, prngReg c r)
    ∗ (StableHlo.held (c.tc : Thread nD τ) others (VN m c) ∗ emp) ∗ kept c ∗ ∃ Wd, owes (c : Thread nD τ) (0 : CellTallies nD τ sig Unit) Wd) ⊢ _
  unfold last
  rw [StableHlo.held_sub_split (c.tc : Thread nD τ) (Pipeline.arrRefs_sub_ucRefs spec0 (by decide)) (VN m c)]
  iintro ⟨Ha, -, ⟨Hr, -⟩, Hk, HO⟩
  isplitr [HO]
  · isplitl [Ha Hr]; · isplitl [Ha] <;> iassumption
    iexact Hk
  iexact HO

/-! ## The run -/

theorem counter_eq : ∀ sm : SemLoc sig, sm.isScoped .tc = false → sm = .reg barS := by decide

theorem VN_arg (c : Dev nD) (r : Ref sig .tc) (h : r ∉ hostOps0_W) (h' : r ≠ main_v19) : VN m c (Proc.devRef .tc r) = m ((c.tc : Thread nD τ).loc r) :=
  (VN_of m c r h').trans (V1_of m c r h)

abbrev ringSegs (c : Dev nD) := segs m 𝒱₀ L lv (fun _ => rest m) () (pdats m) (call m) c

set_option backward.isDefEq.respectTransparency.types false in
/-- From any memory with zero counters every fair execution of the program terminates; the arguments are then as they were, the result buffer of
    each device holds what it computed, and every counter is zero. -/
theorem run_main : θ_run defs (onTc (τ := τ) (main (F := F))) ⟨m, fun _ => 0, ρ⟩ (fun r => (∀ c : Dev nD,
      r.2.mem ((c.tc : Thread nD τ).loc main_v19) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_regions_kit_dev_sems (pcfgs (F := F)) adm (pdats m) () cellOf_inj EP defs₀ 𝒱₀ L lv m ρ main (ringSegs m)
    (fun c Q => by
      rewrite [main_chain c, Pipeline.Seg.run_eq_chain,
        show (ringSegs m c).map Pipeline.Seg.prog = [StableHlo.seq (hostOps0 c), Prog.lift (.customCall (Pipeline.entry 0) ())] from rfl]
      dsimp (config := { failIfUnchanged := false }) only
      exact .rfl)
    (fun c => by simp only [ringSegs, segs, Pipeline.Seg.pipes_host, Pipeline.Seg.pipes_region, Pipeline.Seg.pipes_nil]; decide)
    (O₀ := O₀) (hL := L_of_ne) (G := start) (u₀ := u₀)
    (hu₀ := by
      unfold u₀
      iintro Hu
      ihave H := (ownU_pair _ _) $$ Hu
      icases H with ⟨HP, HX⟩
      imodintro
      isplitl [HP]; · iexact HP
      rw [start_all]; iexact HX)
    (T₀ := first m) (Tₙ := last m)
    (hch := fun c => ⟨.rfl, call_pre m c, call_post m c⟩)
    (hinit := deal m ρ)
    (QY := fun c s => (∀ b ∈ Pipeline.ucRefs τ sig, s.mem ((c : Thread nD τ).1, b) = VN m c b) ∧ s.sem (barCell c) = 0)
    (hfin := fun c s' => by
      unfold last StableHlo.held kept
      iintro ⟨⟨Hh, Hb0⟩, HSI⟩
      icombine HSI Hb0 gives %hb
      ihave Hr := (pointsTo_read_all (Pipeline.ucRefs τ sig) (fun b => ((c : Thread nD τ).1, b)) (VN m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => by
        have hm (r : Ref sig .tc) (hr : Proc.devRef .tc r ∈ Pipeline.ucRefs τ sig) : s.mem ((c.tc : Thread nD τ).loc r) = VN m c (Proc.devRef .tc r) := (h c).1 _ hr
        refine ⟨(hm main_v19 (Finset.mem_filter.mpr ⟨StableHlo.devRef_mem_tcRefs main_v19, by decide⟩)).trans (VN_out m c), ?_, ?_, ?_, ?_, ?_⟩
        · exact (hm main_arg0 (Finset.mem_filter.mpr ⟨StableHlo.devRef_mem_tcRefs main_arg0, by decide⟩)).trans (VN_arg m c main_arg0 (by decide) (by decide))
        · exact (hm main_arg1 (Finset.mem_filter.mpr ⟨StableHlo.devRef_mem_tcRefs main_arg1, by decide⟩)).trans (VN_arg m c main_arg1 (by decide) (by decide))
        · exact (hm main_arg2 (Finset.mem_filter.mpr ⟨StableHlo.devRef_mem_tcRefs main_arg2, by decide⟩)).trans (VN_arg m c main_arg2 (by decide) (by decide))
        · exact (hm main_arg3 (Finset.mem_filter.mpr ⟨StableHlo.devRef_mem_tcRefs main_arg3, by decide⟩)).trans (VN_arg m c main_arg3 (by decide) (by decide))
        · exact (hm main_arg4 (Finset.mem_filter.mpr ⟨StableHlo.devRef_mem_tcRefs main_arg4, by decide⟩)).trans (VN_arg m c main_arg4 (by decide) (by decide)),
      sem_eq_zero hs fun c sm hsm => by
        obtain rfl := counter_eq sm hsm
        exact (h c).2⟩)

end Cert.RingProof

end
-- ==== Proof.Frames.lean ====
/-
  The program as printed and the program read at exact floats are one text, so one run serves both.
-/
module

public import proofs.«01_k».proof.Proof.Gen.Kernel
public import proofs.«01_k».proof.Proof.Launch
public import proofs.«01_k».proof.Defs
public import Idealize.ShloMosaic.PureOps.BitExact
public import Idealize.ShloMosaic.PureOps.Ideal

@[expose] public section

noncomputable section

namespace Cert.RingProof

open Idealize.ShloMosaic
open Idealize.ShloMosaic.TcCoe
open Idealize.SL Idealize.SL.Sem

set_option maxHeartbeats 4000000 in
theorem main_same (c : Dev Cert.Kernel.nD) : Cert.Kernel.main (F := Bits) c = Cert.KernelIdeal.main (F := Bits) c := rfl

set_option maxHeartbeats 4000000 in
theorem kernels_same : Cert.Kernel.defs₀ (F := Bits) = Cert.KernelIdeal.defs₀ (F := Bits) := by
  unfold Cert.Kernel.defs₀ Cert.KernelIdeal.defs₀
  refine congrArg Defs.onTc ?_
  funext l x
  match l with
  | 0 =>
    show Cert.Kernel.cc0_body _ _ _ _ _ _ _ _ _ _ _ _ _ _ _ _ _ _ _ _ = _
    rfl

theorem defs_same : Cert.Kernel.defs (F := Bits) = Cert.KernelIdeal.defs (F := Bits) :=
  congrArg (fun d => Pipeline.defs (Cert.KernelIdeal.pcfgs (F := Bits)) d) kernels_same

theorem programs_same : Cert.Kernel.main (F := Bits) = Cert.KernelIdeal.main (F := Bits) := funext main_same

/-- The program as printed runs, its arguments end as they were and every counter at zero. -/
theorem frame_kernel : Cert.quiescent_Kernel := fun m g _ => by
  rw [defs_same, programs_same]
  exact (θ_run _ _ _).mono (fun r h => ⟨fun c => (h.1 c).2, h.2⟩) (run_main (F := Bits) m g)

/-- So does the program read at exact floats. -/
theorem frame_kernelIdeal : Cert.quiescent_KernelIdeal := fun m g _ =>
  (θ_run _ _ _).mono (fun r h => ⟨fun c => (h.1 c).2, h.2⟩) (run_main (F := Ideal) m g)

end Cert.RingProof

end
-- ==== Proof.Reference.lean ====
module

public import proofs.«01_k».proof.Proof.Gen.ReferenceIdeal.Run
public import proofs.«01_k».proof.Proof.Gen.ReferenceIdeal.Read
public import Idealize.ShloMosaic.Lib.Quiescent
public import proofs.«01_k».proof.Defs

/-! The plain reference at exact floats: it runs, and leaves its arguments alone. -/

@[expose] public section

noncomputable section

namespace Cert.RingProof

open Idealize.ShloMosaic Idealize.SL.Sem

/-- The reference has no semaphore, so its counters end where they must. -/
theorem frame_referenceIdeal : Cert.quiescent_ReferenceIdeal := fun m g _ =>
  (θ_run _ _ _).mono (fun r h => ⟨fun c => (h c).2, sem_eq_zero_of_no_sems (by decide) r.2⟩)
    (Cert.ReferenceIdeal.Value.run (F := Ideal) m g)

end Cert.RingProof

end
-- ==== Proof.Softmax.lean ====
/-
  Attention over extended reals, as both programs compute it: the weights of one query, and why taking the greatest score
  off every score first leaves the weights as they are when the scores are real numbers.
-/
module

public import Idealize.ShloMosaic.Lib.ValueIdx
public import Idealize.ShloMosaic.Lib.IdealHost

@[expose] public section

noncomputable section

namespace Cert.RingProof

open Idealize.ShloMosaic
open scoped BigOperators

/-! ## Real values among the extended reals -/

/-- An extended real that is a real number. -/
def Fine (x : EReal) : Prop := ∃ r : ℝ, x = (r : EReal)

theorem Fine.mul {x y : EReal} : Fine x → Fine y → Fine (x * y) := by
  rintro ⟨a, rfl⟩ ⟨b, rfl⟩; exact ⟨a * b, (EReal.coe_mul a b).symm⟩

theorem Fine.max {x y : EReal} (hx : Fine x) (hy : Fine y) : Fine (max x y) := by
  rcases max_choice x y with h | h <;> rw [h] <;> assumption

/-- A sum of reals, taken among the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

theorem Fine.sum {ι : Type} (S : Finset ι) {f : ι → EReal} (h : ∀ k, Fine (f k)) : Fine (∑ k ∈ S, f k) := by
  choose g hg using h
  exact ⟨∑ k ∈ S, g k, by rw [coe_sum]; exact Finset.sum_congr rfl fun k _ => hg k⟩

/-- A value whose magnitude is below infinity is a real. -/
theorem Fine.of_abs_lt {x : EReal} (h : Max.max x (-x) < ⊤) : Fine x := by
  induction x with
  | bot => simp at h
  | top => simp at h
  | coe r => exact ⟨r, rfl⟩

/-- The greatest of finitely many reals, at least one of them, is a real. -/
theorem Fine.fold_max {ι : Type} (S : Finset ι) (f : ι → EReal) (h : ∀ k, Fine (f k)) :
    S.Nonempty → Fine (S.fold Max.max ⊥ f) := by
  classical
  induction S using Finset.induction_on with
  | empty => exact fun e => absurd e Finset.not_nonempty_empty
  | insert a S ha ih =>
    intro _
    rw [Finset.fold_insert ha]
    rcases S.eq_empty_or_nonempty with rfl | hS
    · rw [Finset.fold_empty]; rw [max_bot_right]; exact h a
    · exact (h a).max (ih hS)

/-! ## The weights -/

/-- The weight of the `j`-th of the scores `s`: its exponential over the sum of all the exponentials. -/
def weight {ι : Type} [Fintype ι] (s : ι → EReal) (j : ι) : EReal := Ideal.div (Ideal.exp (s j)) (∑ k, Ideal.exp (s k))

/-- The weights of real scores do not change when one real is taken off every score. -/
theorem weight_shift {ι : Type} [Fintype ι] (s : ι → EReal) (hs : ∀ k, Fine (s k)) {M : EReal} (hM : Fine M) (j : ι) :
    weight (fun k => s k - M) j = weight s j := by
  obtain ⟨M, rfl⟩ := hM
  choose r hr using hs
  obtain rfl : s = fun k => (r k : EReal) := funext hr
  have e1 : ∀ k, Ideal.exp ((r k : EReal) - M) = ((Real.exp (r k - M) : ℝ) : EReal) := fun k => by
    rw [← EReal.coe_sub, Ideal.exp_coe]
  have p : ∀ t : ι → ℝ, 0 < ∑ k, Real.exp (t k) := fun t => Finset.sum_pos (fun k _ => Real.exp_pos _) ⟨j, Finset.mem_univ j⟩
  unfold weight
  simp only [e1, Ideal.exp_coe, ← coe_sum]
  rw [Ideal.div_coe (p _).ne', Ideal.div_coe (p _).ne', ← EReal.coe_mul, ← EReal.coe_mul]
  congr 1
  have e2 : ∑ k, Real.exp (r k - M) = (∑ k, Real.exp (r k)) * Real.exp (-M) := by
    rw [Finset.sum_mul]; exact Finset.sum_congr rfl fun k _ => by rw [← Real.exp_add, sub_eq_add_neg]
  rw [e2, sub_eq_add_neg, Real.exp_add]
  have h1 := (p r).ne'
  have h2 := (Real.exp_pos (-M)).ne'
  field_simp

/-! ## The score's constants -/

/-- The factor a product of a query and a key is scaled by: an eighth. -/
abbrev eighth : EReal := Ideal.ofBits .f32 0x3E000000#32
/-- The score of a key position that is masked: minus 10⁹. -/
abbrev hidden : EReal := Ideal.ofBits .f32 0xCE6E6B28#32

theorem fine_eighth : Fine eighth := by
  refine ⟨1 / 8, ?_⟩
  simp [Ideal.ofBits, Ideal.ieee, -EReal.coe_mul]; norm_num
theorem fine_hidden : Fine hidden := by
  refine ⟨-1000000000, ?_⟩
  simp [Ideal.ofBits, Ideal.ieee, -EReal.coe_mul, -EReal.coe_neg]; norm_num
theorem ofBits_neg_inf : Ideal.ofBits .f32 0xFF800000#32 = ⊥ := by simp [Ideal.ofBits, Ideal.ieee]

/-! ## The attention of one head -/

/-- Query position `i` attends to key position `j`: their blocks of 64 have the same number modulo 4. -/
def shown (i j : Fin 512) : Bool := j.val / 64 % 4 == i.val / 64 % 4

/-- The score of key position `j` for query position `i`. -/
def score (Q K : Fin 512 → Fin 64 → EReal) (i j : Fin 512) : EReal :=
  if shown i j then (∑ d, Q i d * K j d) * eighth else hidden

/-- One head's attention: position `i`, coordinate `d`. -/
def attend (Q K V : Fin 512 → Fin 64 → EReal) (i : Fin 512) (d : Fin 64) : EReal := ∑ j, weight (score Q K i) j * V j d

theorem fine_score {Q K : Fin 512 → Fin 64 → EReal} (hQ : ∀ i d, Fine (Q i d)) (hK : ∀ j d, Fine (K j d)) (i j : Fin 512) :
    Fine (score Q K i j) := by
  unfold score
  split
  · exact (Fine.sum _ fun d => (hQ i d).mul (hK j d)).mul fine_eighth
  · exact fine_hidden

end Cert.RingProof

end
-- ==== Proof.Mask.lean ====
/-
  The mask: at each pair of positions, both programs' masks say whether the blocks of 64 the positions lie in have the same
  number modulo 4.
-/
module

public import proofs.«01_k».proof.Proof.Softmax
public import proofs.«01_k».proof.Proof.Value
public import proofs.«01_k».proof.Proof.Gen.ReferenceIdeal.Read

@[expose] public section

noncomputable section

namespace Cert.RingProof

open Idealize.ShloMosaic
open Idealize.ShloMosaic.ValueIdx

/-! ## The kernel's -/

section Kernel
open Cert.KernelIdeal Cert.KernelIdeal.Gen

/-- The number of a query position's block. -/
theorem ker_row (i j : Fin 512) : k0_pay3 k0_pay1 k0_pay2 (ix2 i j) = BitVec.ofNat 32 (i.val / 64) := by
  rw [show k0_pay3 k0_pay1 k0_pay2 (ix2 i j) = k0_pay3 k0_pay1 k0_pay2 (ix2 i (0 : Fin 512)) from rfl]
  revert i; decide +kernel

/-- The number of a key position's block, modulo 4. -/
theorem ker_col (i j : Fin 512) : k0_pay4 (ix2 i j) = BitVec.ofNat 32 (j.val / 64 % 4) := by
  rw [show k0_pay4 (ix2 i j) = k0_pay4 (ix2 (0 : Fin 512) j) from rfl]
  revert j; decide +kernel

theorem ker_same : ∀ (a : Fin 8) (b : Fin 4),
    k0_pay5 (fun _ => BitVec.ofNat 32 a.val) (fun _ => BitVec.ofNat 32 b.val) 4#32 0#32 (ix2 (0 : Fin 512) (0 : Fin 512))
      = BitVec.ofBool (b.val == a.val % 4) := by decide +kernel

theorem msk_apply (i j : Fin 512) : msk (ix2 i j) = BitVec.ofBool (shown i j) := by
  unfold msk
  rw [show ∀ v w, k0_pay5 v w 4#32 0#32 (ix2 i j) = k0_pay5 (fun _ => v (ix2 i j)) (fun _ => w (ix2 i j)) 4#32 0#32 (ix2 (0 : Fin 512) (0 : Fin 512))
    from fun _ _ => rfl, ker_row, ker_col]
  exact ker_same ⟨i.val / 64, by omega⟩ ⟨j.val / 64 % 4, by omega⟩

end Kernel

/-! ## The reference's -/

section Reference
open Cert.ReferenceIdeal Cert.ReferenceIdeal.Read

theorem ref_row (n : Fin 512) : val_main_v8 (F := Ideal) (fun | ⟨0, _⟩ => n) = BitVec.ofNat 32 (n.val / 64) := by
  revert n; decide +kernel
theorem ref_col (n : Fin 512) : val_main_v11 (F := Ideal) (fun | ⟨0, _⟩ => n) = BitVec.ofNat 32 (n.val / 64) := by
  revert n; decide +kernel
theorem ref_row_mod (n : Fin 512) : val_main_v17 (F := Ideal) (ix2 n (0 : Fin 1)) = BitVec.ofNat 32 (n.val / 64 % 4) := by
  revert n; decide +kernel
theorem ref_col_mod (n : Fin 512) : val_main_v16 (F := Ideal) (ix2 (0 : Fin 1) n) = BitVec.ofNat 32 (n.val / 64 % 4) := by
  revert n; decide +kernel

theorem ref_same : ∀ a b : Fin 8, IntOp.ori (IntOp.cmpi .eq (BitVec.ofNat 32 a.val) (BitVec.ofNat 32 b.val))
    (IntOp.cmpi .eq (BitVec.ofNat 32 (b.val % 4)) (BitVec.ofNat 32 (a.val % 4))) = BitVec.ofBool (b.val % 4 == a.val % 4) := by
  decide +kernel

theorem ref_mask (i j : Fin 512) : val_main_v21 (F := Ideal) (ix2 i j) = BitVec.ofBool (shown i j) := by
  rw [val_main_v21_apply, val_main_v15_apply, val_main_v20_apply, val_main_v13_apply, val_main_v14_apply, val_main_v18_apply,
    val_main_v19_apply, val_main_v9_apply, val_main_v12_apply]
  have e1 := ref_row i
  have e2 := ref_col j
  have e3 := ref_row_mod i
  have e4 := ref_col_mod j
  refine Eq.trans ?_ (ref_same ⟨i.val / 64, by omega⟩ ⟨j.val / 64, by omega⟩)
  refine congrArg₂ IntOp.ori (congrArg₂ (IntOp.cmpi .eq) (Eq.trans (congrArg _ ?_) e1) (Eq.trans (congrArg _ ?_) e2))
    (congrArg₂ (IntOp.cmpi .eq) (Eq.trans (congrArg _ ?_) e4) (Eq.trans (congrArg _ ?_) e3))
  all_goals
    funext a; apply Fin.ext
    match a with
    | ⟨0, _⟩ => first | rfl | decide
    | ⟨1, _⟩ => first | rfl | decide

end Reference

end Cert.RingProof

end
-- ==== Proof.Attend.lean ====
/-
  One turn of the kernel on one batch, read at an index: the attention of the group's eight heads, and the projection of it.
-/
module

public import proofs.«01_k».proof.Proof.Mask
public import Idealize.ShloMosaic.PureOps.Ideal.Laws

@[expose] public section

noncomputable section

namespace Cert.RingProof

open Cert.KernelIdeal Cert.KernelIdeal.Gen
open Idealize.ShloMosaic
open Idealize.ShloMosaic.ValueIdx
open scoped BigOperators

/-! ## The four products -/

/-- Two indices with the same coordinates. -/
theorem idx_ext {s : Shape} {i j : s.Idx} (h : ∀ a, (i a).val = (j a).val) : i = j := funext fun a => Fin.ext (h a)

/-- Rows of `x` times columns of the query weights. -/
theorem dot_query (l : FVec Ideal S512x768 .bf16) (r : FVec Ideal S768x512 .bf16) (i j : Fin 512) :
    matmul dot_S512x768_S768x512_S512x512_1_0_0_1_n_n none l r (constant S512x512 .f32 0x00000000#32) (ix2 i j)
      = ∑ e : Fin 768, l (ix2 i e) * r (ix2 e j) := by
  simp only [matmul]
  rw [Ideal.matmul_constant_zero_apply, ← Equiv.sum_comp (contrEquiv1 dot_S512x768_S768x512_S512x512_1_0_0_1_n_n 768 rfl rfl).symm]
  refine Finset.sum_congr rfl fun e _ => congrArg₂ (· * ·) (congrArg l (idx_ext fun a => ?_)) (congrArg r (idx_ext fun a => ?_))
  · match a with | ⟨0, _⟩ => rfl | ⟨1, _⟩ => rfl
  · match a with | ⟨0, _⟩ => rfl | ⟨1, _⟩ => rfl

/-- A head's queries times its keys. -/
theorem dot_score (l r : FVec Ideal S8x512x64 .bf16) (h : Fin 8) (i j : Fin 512) :
    matmul dot_S8x512x64_S8x512x64_S8x512x512_2_2_1_1_0_0 none l r (constant S8x512x512 .f32 0x00000000#32) (ix3 h i j)
      = ∑ d : Fin 64, l (ix3 h i d) * r (ix3 h j d) := by
  simp only [matmul]
  rw [Ideal.matmul_constant_zero_apply, ← Equiv.sum_comp (contrEquiv1 dot_S8x512x64_S8x512x64_S8x512x512_2_2_1_1_0_0 64 rfl rfl).symm]
  refine Finset.sum_congr rfl fun e _ => congrArg₂ (· * ·) (congrArg l (idx_ext fun a => ?_)) (congrArg r (idx_ext fun a => ?_))
  · match a with | ⟨0, _⟩ => rfl | ⟨1, _⟩ => rfl | ⟨2, _⟩ => rfl
  · match a with | ⟨0, _⟩ => rfl | ⟨1, _⟩ => rfl | ⟨2, _⟩ => rfl

/-- A head's weights times its values. -/
theorem dot_value (l : FVec Ideal S8x512x512 .bf16) (r : FVec Ideal S8x512x64 .bf16) (h : Fin 8) (i : Fin 512) (d : Fin 64) :
    matmul dot_S8x512x512_S8x512x64_S8x512x64_2_1_1_2_0_0 none l r (constant S8x512x64 .f32 0x00000000#32) (ix3 h i d)
      = ∑ j : Fin 512, l (ix3 h i j) * r (ix3 h j d) := by
  simp only [matmul]
  rw [Ideal.matmul_constant_zero_apply, ← Equiv.sum_comp (contrEquiv1 dot_S8x512x512_S8x512x64_S8x512x64_2_1_1_2_0_0 512 rfl rfl).symm]
  refine Finset.sum_congr rfl fun e _ => congrArg₂ (· * ·) (congrArg l (idx_ext fun a => ?_)) (congrArg r (idx_ext fun a => ?_))
  · match a with | ⟨0, _⟩ => rfl | ⟨1, _⟩ => rfl | ⟨2, _⟩ => rfl
  · match a with | ⟨0, _⟩ => rfl | ⟨1, _⟩ => rfl | ⟨2, _⟩ => rfl

/-- The attention times the output weights. -/
theorem dot_out (l : FVec Ideal S512x512 .bf16) (r : FVec Ideal S512x768 .bf16) (i : Fin 512) (n : Fin 768) :
    matmul dot_S512x512_S512x768_S512x768_1_0_0_1_n_n none l r (constant S512x768 .f32 0x00000000#32) (ix2 i n)
      = ∑ k : Fin 512, l (ix2 i k) * r (ix2 k n) := by
  simp only [matmul]
  rw [Ideal.matmul_constant_zero_apply, ← Equiv.sum_comp (contrEquiv1 dot_S512x512_S512x768_S512x768_1_0_0_1_n_n 512 rfl rfl).symm]
  refine Finset.sum_congr rfl fun e _ => congrArg₂ (· * ·) (congrArg l (idx_ext fun a => ?_)) (congrArg r (idx_ext fun a => ?_))
  · match a with | ⟨0, _⟩ => rfl | ⟨1, _⟩ => rfl
  · match a with | ⟨0, _⟩ => rfl | ⟨1, _⟩ => rfl

/-! ## Heads apart and heads together -/

/-- Column `h · 64 + d` of a group's 512: coordinate `d` of its head `h`. -/
def gcol (h : Fin 8) (d : Fin 64) : Fin 512 := ⟨h.val * 64 + d.val, by omega⟩
def ghead (k : Fin 512) : Fin 8 := ⟨k.val / 64, by omega⟩
def gcoord (k : Fin 512) : Fin 64 := ⟨k.val % 64, by omega⟩

variable {α : Type}

theorem apart_apply (v : S512x512.Idx → α) (h : Fin 8) (i : Fin 512) (d : Fin 64) :
    transpose S8x512x64 [1, 0, 2] (shapeCast S512x8x64 v shapeCasts_S512x512_S512x8x64) transposes_S512x8x64_p1_0_2_S8x512x64 (ix3 h i d)
      = v (ix2 i (gcol h d)) := by
  refine (transpose_apply _ _ _ _ (ix3 i h d) fun b => ?_).trans (shapeCast_apply _ _ _ _ ?_)
  · match b with | ⟨0, _⟩ => rfl | ⟨1, _⟩ => rfl | ⟨2, _⟩ => rfl
  · rw [Shape.rowMajor_val_two, Shape.rowMajor_val_three]
    show i.val * 512 + (h.val * 64 + d.val) = (i.val * 8 + h.val) * 64 + d.val
    omega

theorem together_apply (v : S8x512x64.Idx → α) (i k : Fin 512) :
    shapeCast S512x512 (transpose S512x8x64 [1, 0, 2] v transposes_S8x512x64_p1_0_2_S512x8x64) shapeCasts_S512x8x64_S512x512 (ix2 i k)
      = v (ix3 (ghead k) i (gcoord k)) := by
  refine (shapeCast_apply _ _ _ (ix3 i (ghead k) (gcoord k)) ?_).trans (transpose_apply _ _ _ _ _ fun b => ?_)
  · rw [Shape.rowMajor_val_two, Shape.rowMajor_val_three]
    show (i.val * 8 + k.val / 64) * 64 + k.val % 64 = i.val * 512 + k.val
    omega
  · match b with | ⟨0, _⟩ => rfl | ⟨1, _⟩ => rfl | ⟨2, _⟩ => rfl

theorem group_apply (v : S1x1x8x512x64.Idx → α) (h : Fin 8) (j : Fin 512) (d : Fin 64) :
    shapeCast S8x512x64 v shapeCasts_S1x1x8x512x64_S8x512x64 (ix3 h j d) = v (ix5 (0 : Fin 1) (0 : Fin 1) h j d) := by
  refine shapeCast_apply _ _ _ _ ?_
  rw [Shape.rowMajor_val_five, Shape.rowMajor_val_three]
  show (((0 * 1 + 0) * 8 + h.val) * 512 + j.val) * 64 + d.val = (h.val * 512 + j.val) * 64 + d.val
  omega

theorem mask_apply (v : S512x512.Idx → α) (h : Fin 8) (i j : Fin 512) :
    broadcastTo S8x512x512 (shapeCast S1x512x512 (shapeCast S1x512x512 v shapeCasts_S512x512_S1x512x512) shapeCasts_S1x512x512_S1x512x512)
      broadcasts_S1x512x512_S8x512x512 (ix3 h i j) = v (ix2 i j) := by
  rw [shapeCast_self]
  refine (broadcastTo_apply _ _ _ (ix3 (0 : Fin 1) i j) fun a => ?_).trans (shapeCast_apply _ _ _ _ ?_)
  · match a with | ⟨0, _⟩ => rfl | ⟨1, _⟩ => rfl | ⟨2, _⟩ => rfl
  · rw [Shape.rowMajor_val_two, Shape.rowMajor_val_three]
    show i.val * 512 + j.val = (0 * 512 + i.val) * 512 + j.val
    omega

/-! ## The weights -/

theorem weights_apply (s : FVec Ideal S8x512x512 .f32) (h : Fin 8) (i j : Fin 512) :
    divf (exp s) (broadcastTo S8x512x512 (shapeCast S8x512x1
      (multiReduction .add [2] S8x512 (exp s) 0x00000000#32 reduces_S8x512x512_S8x512 (.inl rfl) rfl) shapeCasts_S8x512_S8x512x1)
      broadcasts_S8x512x1_S8x512x512) (ix3 h i j) = weight (fun k => s (ix3 h i k)) j := by
  rw [divf_apply]
  unfold weight
  refine congrArg (Ideal.div (Ideal.exp (s (ix3 h i j)))) ?_
  refine ((broadcastTo_apply _ _ _ (ix3 h i (0 : Fin 1)) fun a => ?_).trans (shapeCast_apply _ _ _ (ix2 h i) ?_)).trans
    ((Ideal.multiReduction_add_single _ _ _ _ _ _).trans (Finset.sum_congr rfl fun k _ => ?_))
  · match a with | ⟨0, _⟩ => rfl | ⟨1, _⟩ => rfl | ⟨2, _⟩ => rfl
  · rw [Shape.rowMajor_val_two, Shape.rowMajor_val_three]
    show h.val * 512 + i.val = (h.val * 512 + i.val) * 1 + 0
    omega
  · refine congrArg (fun t => Ideal.exp (s t)) (idx_ext fun a => ?_)
    match a with
    | ⟨0, _⟩ => exact Shape.Reduces.lift_val ..
    | ⟨1, _⟩ => exact Shape.Reduces.lift_val ..
    | ⟨2, _⟩ => exact Shape.Reduces.lift_val ..

/-! ## One turn's attention -/

/-- The queries of a group's head `h`: rows of `x` times columns of the group's query weights. -/
def gquery (x : S1x512x768.Idx → EReal) (q : S768x512.Idx → EReal) (h : Fin 8) (i : Fin 512) (d : Fin 64) : EReal :=
  ∑ e : Fin 768, x (ix3 (0 : Fin 1) i e) * q (ix2 e (gcol h d))
/-- The keys, or the values, of a group's head `h`. -/
def gkeys (k : S1x1x8x512x64.Idx → EReal) (h : Fin 8) (j : Fin 512) (d : Fin 64) : EReal := k (ix5 (0 : Fin 1) (0 : Fin 1) h j d)

variable (q : FVec Ideal S768x512 .bf16) (x : Vec Ideal S1x512x768 .bf16) (k v : Vec Ideal S1x1x8x512x64 .bf16)

theorem query_apply (h : Fin 8) (i : Fin 512) (d : Fin 64) :
    k0_pay8 q x (ix3 h i d) = gquery x q h i d := by
  unfold k0_pay8
  dsimp only
  refine (apart_apply _ _ _ _).trans ((dot_query _ _ _ _).trans (Finset.sum_congr rfl fun e _ => ?_))
  refine congrArg (· * q (ix2 e (gcol h d))) (shapeCast_apply x _ _ (ix3 (0 : Fin 1) i e) ?_)
  rw [Shape.rowMajor_val_two, Shape.rowMajor_val_three]
  show (0 * 512 + i.val) * 768 + e.val = i.val * 768 + e.val
  omega

theorem attend_apply (i n : Fin 512) : k0_pay7 msk q x k v (ix2 i n)
    = attend (gquery x q (ghead n)) (gkeys k (ghead n)) (gkeys v (ghead n)) i (gcoord n) := by
  unfold k0_pay7
  dsimp only
  refine (together_apply _ i n).trans ?_
  unfold attend
  refine (dot_value _ _ _ _ _).trans (Finset.sum_congr rfl fun j _ => ?_)
  refine congrArg₂ (· * ·) ((weights_apply _ _ _ _).trans (congrArg (fun s => weight s j) (funext fun l => ?_))) (group_apply v _ _ _)
  have es : matmul dot_S8x512x64_S8x512x64_S8x512x512_2_2_1_1_0_0 none (k0_pay8 q x) (k0_pay16 k) (constant S8x512x512 .f32 0x00000000#32)
      (ix3 (ghead n) i l)
      = ∑ d, gquery x q (ghead n) i d * gkeys k (ghead n) l d :=
    (dot_score _ _ _ _ _).trans (Finset.sum_congr rfl fun d _ => congrArg₂ (· * ·) (query_apply q x _ _ _) (group_apply k _ _ _))
  refine (congrArg₂ (fun c t => Scalar.select c (t * eighth) hidden) ((mask_apply msk _ _ _).trans (msk_apply _ _)) es).trans ?_
  unfold score
  cases shown i l <;> rfl

end Cert.RingProof

end
-- ==== Proof.Turns.lean ====
/-
  What the kernel's body leaves in its output block, read at an index: the four turns of the ring, each the attention of the
  group of heads whose weights have arrived, projected.
-/
module

public import proofs.«01_k».proof.Proof.Attend

@[expose] public section

noncomputable section

namespace Cert.RingProof

open Cert.KernelIdeal Cert.KernelIdeal.Gen
open Idealize.ShloMosaic
open Idealize.ShloMosaic.TcCoe
open Idealize.ShloMosaic.ValueIdx
open scoped BigOperators

/-! ## The loads -/

/-- The device whose weights device `c` works with at turn `t`. -/
def origin (c : Dev nD) (t : Fin 4) : Fin 4 := ⟨(c.val + 4 - t.val) % 4, Nat.mod_lt _ (by decide)⟩

theorem off1_eq : ∀ (c : Dev nD) (t : Fin 4), k0_off1 c (BitVec.ofNat 32 t.val) = ![(origin c t).val, 0, 0, 0, 0] := by decide +kernel
theorem off2_eq : ∀ (c : Dev nD) (t : Fin 4), k0_off2 c (BitVec.ofNat 32 t.val) = ![(origin c t).val, 1, 0, 0, 0] := by decide +kernel

variable (c : Dev nD) (X : S2x512x768.Idx → EReal) (Kb Vb : S4x2x8x512x64.Idx → EReal)

theorem ldX0_apply (i : Fin 512) (e : Fin 768) : ldX0 (F := Ideal) X (ix3 (0 : Fin 1) i e) = X (ix3 (0 : Fin 2) i e) := by
  refine congrArg X (idx_ext fun a => ?_)
  match a with
  | ⟨0, _⟩ => rfl
  | ⟨1, _⟩ => show 0 + 1 * i.val = i.val; omega
  | ⟨2, _⟩ => show 0 + 1 * e.val = e.val; omega
theorem ldX1_apply (i : Fin 512) (e : Fin 768) : ldX1 (F := Ideal) X (ix3 (0 : Fin 1) i e) = X (ix3 (1 : Fin 2) i e) := by
  refine congrArg X (idx_ext fun a => ?_)
  match a with
  | ⟨0, _⟩ => rfl
  | ⟨1, _⟩ => show 0 + 1 * i.val = i.val; omega
  | ⟨2, _⟩ => show 0 + 1 * e.val = e.val; omega

/-- The load of one group and one batch of the keys, at an offset known to be theirs. -/
theorem piece_apply (off : Fin 5 → Nat) (inb) (g : Fin 4) (b : Fin 2) (ho : off = ![g.val, b.val, 0, 0, 0]) (h : Fin 8) (j : Fin 512) (d : Fin 64) :
    kIn.view.readAt (Elt Ideal) (Rect.unit (s := S4x2x8x512x64) off S1x1x8x512x64.size inb).toLoadRect Kb
      (ix5 (0 : Fin 1) (0 : Fin 1) h j d) = Kb (ix5 g b h j d) := by
  subst ho
  refine congrArg Kb (idx_ext fun a => ?_)
  match a with
  | ⟨0, _⟩ => rfl
  | ⟨1, _⟩ => rfl
  | ⟨2, _⟩ => show 0 + 1 * h.val = h.val; omega
  | ⟨3, _⟩ => show 0 + 1 * j.val = j.val; omega
  | ⟨4, _⟩ => show 0 + 1 * d.val = d.val; omega

theorem ldK0_apply (t : Fin 4) (h : Fin 8) (j : Fin 512) (d : Fin 64) :
    ldK0 (F := Ideal) c Kb t (ix5 (0 : Fin 1) (0 : Fin 1) h j d) = Kb (ix5 (origin c t) (0 : Fin 2) h j d) :=
  piece_apply Kb _ _ _ _ (off1_eq c t) h j d
theorem ldK1_apply (t : Fin 4) (h : Fin 8) (j : Fin 512) (d : Fin 64) :
    ldK1 (F := Ideal) c Kb t (ix5 (0 : Fin 1) (0 : Fin 1) h j d) = Kb (ix5 (origin c t) (1 : Fin 2) h j d) :=
  piece_apply Kb _ _ _ _ (off2_eq c t) h j d

/-- The values are loaded as the keys are. -/
theorem ldV0_eq (t : Fin 4) : ldV0 (F := Ideal) c Vb t = ldK0 (F := Ideal) c Vb t := rfl
theorem ldV1_eq (t : Fin 4) : ldV1 (F := Ideal) c Vb t = ldK1 (F := Ideal) c Vb t := rfl

/-! ## The weights a turn works with -/

variable (q : S768x512.Idx → EReal) (w : S512x768.Idx → EReal)

theorem own_q : k0_pay6 (F := Ideal) (ldQ (F := Ideal) q) = q :=
  (shapeCast_self _ _).trans (Memref.readAt_unit_zero (Elt Ideal) cc0_stg1_0 (by decide) _ q)
theorem own_w : k0_pay9 (F := Ideal) (ldO (F := Ideal) w) = w :=
  (shapeCast_self _ _).trans (Memref.readAt_unit_zero (Elt Ideal) cc0_stg4_0 (by decide) _ w)

theorem slot_q0 : k0_pay12 (F := Ideal) (ldQ0 (F := Ideal) q) = q := View.read_write_univ (v := q0.view) (Val := Elt Ideal) _ q
theorem slot_q1 : k0_pay12 (F := Ideal) (ldQ1 (F := Ideal) q) = q := View.read_write_univ (v := q1.view) (Val := Elt Ideal) _ q
theorem slot_q2 : k0_pay12 (F := Ideal) (ldQ2 (F := Ideal) q) = q := View.read_write_univ (v := q2.view) (Val := Elt Ideal) _ q
theorem slot_w0 : k0_pay18 (F := Ideal) (ldO0 (F := Ideal) w) = w := View.read_write_univ (v := o0.view) (Val := Elt Ideal) _ w
theorem slot_w1 : k0_pay18 (F := Ideal) (ldO1 (F := Ideal) w) = w := View.read_write_univ (v := o1.view) (Val := Elt Ideal) _ w
theorem slot_w2 : k0_pay18 (F := Ideal) (ldO2 (F := Ideal) w) = w := View.read_write_univ (v := o2.view) (Val := Elt Ideal) _ w

/-! ## One turn -/

/-- The attention of group `g` on batch `b`, projected: what one turn adds at row `i`, column `n`. -/
def turn (b : Fin 2) (g : Fin 4) (i : Fin 512) (n : Fin 768) : EReal :=
  ∑ k : Fin 512, attend (fun i d => ∑ e : Fin 768, X (ix3 b i e) * q (ix2 e (gcol (ghead k) d)))
    (fun j d => Kb (ix5 g b (ghead k) j d)) (fun j d => Vb (ix5 g b (ghead k) j d)) i (gcoord k) * w (ix2 k n)

/-- The projection of the attention on batch 0, and on batch 1. -/
theorem proj0 (t : Fin 4) (i : Fin 512) (n : Fin 768) :
    ∑ k : Fin 512, k0_pay7 (F := Ideal) msk q (ldX0 (F := Ideal) X) (ldK0 (F := Ideal) c Kb t) (ldV0 (F := Ideal) c Vb t) (ix2 i k) * w (ix2 k n)
      = turn X Kb Vb q w 0 (origin c t) i n := by
  unfold turn
  refine Finset.sum_congr rfl fun k _ => congrArg (· * w (ix2 k n)) ?_
  rw [attend_apply, ldV0_eq]
  unfold gquery gkeys
  simp only [ldX0_apply, ldK0_apply]
theorem proj1 (t : Fin 4) (i : Fin 512) (n : Fin 768) :
    ∑ k : Fin 512, k0_pay7 (F := Ideal) msk q (ldX1 (F := Ideal) X) (ldK1 (F := Ideal) c Kb t) (ldV1 (F := Ideal) c Vb t) (ix2 i k) * w (ix2 k n)
      = turn X Kb Vb q w 1 (origin c t) i n := by
  unfold turn
  refine Finset.sum_congr rfl fun k _ => congrArg (· * w (ix2 k n)) ?_
  rw [attend_apply, ldV1_eq]
  unfold gquery gkeys
  simp only [ldX1_apply, ldK1_apply]

/-- The first turn's store, and a later turn's. -/
theorem first_apply (a : FVec Ideal S512x512 .bf16) (v : Vec Ideal S512x768 .bf16) (i : Fin 512) (n : Fin 768) :
    k0_pay10 (F := Ideal) a v (ix3 (0 : Fin 1) i n) = ∑ k : Fin 512, a (ix2 i k) * k0_pay9 (F := Ideal) v (ix2 k n) := by
  unfold k0_pay10
  refine (shapeCast_apply _ _ _ (ix2 i n) ?_).trans (dot_out _ _ _ _)
  rw [Shape.rowMajor_val_two, Shape.rowMajor_val_three]
  show i.val * 768 + n.val = (0 * 512 + i.val) * 768 + n.val
  omega
theorem next_apply (a : FVec Ideal S512x512 .bf16) (v : FVec Ideal S512x768 .bf16) (p : Vec Ideal S1x512x768 .f32) (i : Fin 512) (n : Fin 768) :
    k0_pay32 (F := Ideal) a v p (ix3 (0 : Fin 1) i n) = p (ix3 (0 : Fin 1) i n) + ∑ k : Fin 512, a (ix2 i k) * v (ix2 k n) := by
  unfold k0_pay32
  have e : ((⟨2, ![512, 768]⟩ : Shape).rowMajor (ix2 i n)).val = ((⟨3, ![1, 512, 768]⟩ : Shape).rowMajor (ix3 (0 : Fin 1) i n)).val := by
    rw [Shape.rowMajor_val_two, Shape.rowMajor_val_three]
    show i.val * 768 + n.val = (0 * 512 + i.val) * 768 + n.val
    omega
  refine (shapeCast_apply _ _ _ (ix2 i n) e).trans ?_
  rw [addf_apply]
  exact congrArg₂ (· + ·) (shapeCast_apply _ _ _ _ e.symm) (dot_out _ _ _ _)

/-! ## The output block -/

variable (Wq : Fin 4 → S768x512.Idx → EReal) (Wo : Fin 4 → S512x768.Idx → EReal)

/-- The four turns on batch `b`, added up in their order. -/
def turns (b : Fin 2) (i : Fin 512) (n : Fin 768) : EReal :=
  turn X Kb Vb (Wq 0) (Wo 0) b (origin c 0) i n + turn X Kb Vb (Wq 1) (Wo 1) b (origin c 1) i n
    + turn X Kb Vb (Wq 2) (Wo 2) b (origin c 2) i n + turn X Kb Vb (Wq 3) (Wo 3) b (origin c 3) i n

theorem batch0 (i : Fin 512) (n : Fin 768) : acc30 (F := Ideal) c X Kb Vb Wq Wo (ix3 (0 : Fin 1) i n) = turns c X Kb Vb Wq Wo 0 i n := by
  have e0 : acc00 (F := Ideal) c X Kb Vb Wq Wo (ix3 (0 : Fin 1) i n) = turn X Kb Vb (Wq 0) (Wo 0) 0 (origin c 0) i n := by
    unfold acc00 ctx00
    rw [first_apply, own_w, own_q]
    exact proj0 c X Kb Vb _ _ 0 i n
  have e1 : acc10 (F := Ideal) c X Kb Vb Wq Wo (ix3 (0 : Fin 1) i n) = acc00 (F := Ideal) c X Kb Vb Wq Wo (ix3 (0 : Fin 1) i n) + turn X Kb Vb (Wq 1) (Wo 1) 0 (origin c 1) i n := by
    rw [show acc10 (F := Ideal) c X Kb Vb Wq Wo = k0_pay32 (k0_pay7 msk (k0_pay12 (ldQ0 (Wq 1))) (ldX0 X) (ldK0 c Kb 1) (ldV0 c Vb 1))
      (k0_pay18 (ldO0 (Wo 1))) (acc00 c X Kb Vb Wq Wo) from rfl, next_apply, slot_w0, slot_q0]
    exact congrArg _ (proj0 c X Kb Vb _ _ 1 i n)
  have e2 : acc20 (F := Ideal) c X Kb Vb Wq Wo (ix3 (0 : Fin 1) i n) = acc10 (F := Ideal) c X Kb Vb Wq Wo (ix3 (0 : Fin 1) i n) + turn X Kb Vb (Wq 2) (Wo 2) 0 (origin c 2) i n := by
    rw [show acc20 (F := Ideal) c X Kb Vb Wq Wo = k0_pay32 (k0_pay7 msk (k0_pay12 (ldQ1 (Wq 2))) (ldX0 X) (ldK0 c Kb 2) (ldV0 c Vb 2))
      (k0_pay18 (ldO1 (Wo 2))) (acc10 c X Kb Vb Wq Wo) from rfl, next_apply, slot_w1, slot_q1]
    exact congrArg _ (proj0 c X Kb Vb _ _ 2 i n)
  have e3 : acc30 (F := Ideal) c X Kb Vb Wq Wo (ix3 (0 : Fin 1) i n) = acc20 (F := Ideal) c X Kb Vb Wq Wo (ix3 (0 : Fin 1) i n) + turn X Kb Vb (Wq 3) (Wo 3) 0 (origin c 3) i n := by
    rw [show acc30 (F := Ideal) c X Kb Vb Wq Wo = k0_pay32 (k0_pay7 msk (k0_pay12 (ldQ2 (Wq 3))) (ldX0 X) (ldK0 c Kb 3) (ldV0 c Vb 3))
      (k0_pay18 (ldO2 (Wo 3))) (acc20 c X Kb Vb Wq Wo) from rfl, next_apply, slot_w2, slot_q2]
    exact congrArg _ (proj0 c X Kb Vb _ _ 3 i n)
  rw [e3, e2, e1, e0]; rfl

theorem batch1 (i : Fin 512) (n : Fin 768) : acc31 (F := Ideal) c X Kb Vb Wq Wo (ix3 (0 : Fin 1) i n) = turns c X Kb Vb Wq Wo 1 i n := by
  have e0 : acc01 (F := Ideal) c X Kb Vb Wq Wo (ix3 (0 : Fin 1) i n) = turn X Kb Vb (Wq 0) (Wo 0) 1 (origin c 0) i n := by
    rw [show acc01 (F := Ideal) c X Kb Vb Wq Wo = k0_pay10 (k0_pay7 msk (k0_pay6 (ldQ (Wq 0))) (ldX1 X) (ldK1 c Kb 0) (ldV1 c Vb 0))
      (ldO (Wo 0)) from rfl, first_apply, own_w, own_q]
    exact proj1 c X Kb Vb _ _ 0 i n
  have e1 : acc11 (F := Ideal) c X Kb Vb Wq Wo (ix3 (0 : Fin 1) i n) = acc01 (F := Ideal) c X Kb Vb Wq Wo (ix3 (0 : Fin 1) i n) + turn X Kb Vb (Wq 1) (Wo 1) 1 (origin c 1) i n := by
    rw [show acc11 (F := Ideal) c X Kb Vb Wq Wo = k0_pay32 (k0_pay7 msk (k0_pay12 (ldQ0 (Wq 1))) (ldX1 X) (ldK1 c Kb 1) (ldV1 c Vb 1))
      (k0_pay18 (ldO0 (Wo 1))) (acc01 c X Kb Vb Wq Wo) from rfl, next_apply, slot_w0, slot_q0]
    exact congrArg _ (proj1 c X Kb Vb _ _ 1 i n)
  have e2 : acc21 (F := Ideal) c X Kb Vb Wq Wo (ix3 (0 : Fin 1) i n) = acc11 (F := Ideal) c X Kb Vb Wq Wo (ix3 (0 : Fin 1) i n) + turn X Kb Vb (Wq 2) (Wo 2) 1 (origin c 2) i n := by
    rw [show acc21 (F := Ideal) c X Kb Vb Wq Wo = k0_pay32 (k0_pay7 msk (k0_pay12 (ldQ1 (Wq 2))) (ldX1 X) (ldK1 c Kb 2) (ldV1 c Vb 2))
      (k0_pay18 (ldO1 (Wo 2))) (acc11 c X Kb Vb Wq Wo) from rfl, next_apply, slot_w1, slot_q1]
    exact congrArg _ (proj1 c X Kb Vb _ _ 2 i n)
  have e3 : acc31 (F := Ideal) c X Kb Vb Wq Wo (ix3 (0 : Fin 1) i n) = acc21 (F := Ideal) c X Kb Vb Wq Wo (ix3 (0 : Fin 1) i n) + turn X Kb Vb (Wq 3) (Wo 3) 1 (origin c 3) i n := by
    rw [show acc31 (F := Ideal) c X Kb Vb Wq Wo = k0_pay32 (k0_pay7 msk (k0_pay12 (ldQ2 (Wq 3))) (ldX1 X) (ldK1 c Kb 3) (ldV1 c Vb 3))
      (k0_pay18 (ldO2 (Wo 3))) (acc21 c X Kb Vb Wq Wo) from rfl, next_apply, slot_w2, slot_q2]
    exact congrArg _ (proj1 c X Kb Vb _ _ 3 i n)
  rw [e3, e2, e1, e0]; rfl

theorem result_apply (b : Fin 2) (i : Fin 512) (n : Fin 768) :
    result (F := Ideal) c X Kb Vb Wq Wo (ix3 b i n) = turns c X Kb Vb Wq Wo b i n := by
  match b with
  | 0 => exact batch0 c X Kb Vb Wq Wo i n
  | 1 => exact batch1 c X Kb Vb Wq Wo i n

end Cert.RingProof

end
-- ==== Proof.RefValue.lean ====
/-
  The reference's result, read at an index: for each of the 32 heads its attention, and the sum over heads and coordinates of
  the attention times the output weights.
-/
module

public import proofs.«01_k».proof.Proof.Mask

@[expose] public section

noncomputable section

namespace Cert.RingProof

open Cert.ReferenceIdeal Cert.ReferenceIdeal.Gen Cert.ReferenceIdeal.Read
open Idealize.ShloMosaic
open Idealize.ShloMosaic.ValueIdx
open scoped BigOperators

/-! ## What the reference computes -/

/-- Column `h · 64 + d` of the 2048: coordinate `d` of head `h`. -/
def col (h : Fin 32) (d : Fin 64) : Fin 2048 := ⟨h.val * 64 + d.val, by omega⟩
/-- The head a column belongs to, and its coordinate in the head. -/
def headOf (k : Fin 2048) : Fin 32 := ⟨k.val / 64, by omega⟩
def coordOf (k : Fin 2048) : Fin 64 := ⟨k.val % 64, by omega⟩

/-- The queries of head `h` in batch `b`. -/
def query (X : S8x512x768.Idx → EReal) (W : S768x2048.Idx → EReal) (b : Fin 8) (h : Fin 32) (i : Fin 512) (d : Fin 64) : EReal :=
  ∑ e : Fin 768, X (ix3 b i e) * W (ix2 e (col h d))

/-- The keys, or the values, of head `h` in batch `b`. -/
def keys (K : S8x512x32x64.Idx → EReal) (b : Fin 8) (h : Fin 32) (j : Fin 512) (d : Fin 64) : EReal := K (ix4 b j h d)

/-- The attention of the head of column `k`, at the column's coordinate. -/
def context (X : S8x512x768.Idx → EReal) (W : S768x2048.Idx → EReal) (K V : S8x512x32x64.Idx → EReal) (b : Fin 8) (i : Fin 512)
    (k : Fin 2048) : EReal :=
  attend (query X W b (headOf k)) (keys K b (headOf k)) (keys V b (headOf k)) i (coordOf k)

theorem fine_query {X : S8x512x768.Idx → EReal} {W : S768x2048.Idx → EReal} (hX : ∀ i, Fine (X i)) (hW : ∀ i, Fine (W i))
    (b : Fin 8) (h : Fin 32) (i : Fin 512) (d : Fin 64) : Fine (query X W b h i d) :=
  Fine.sum _ fun _ => (hX _).mul (hW _)

/-! ## The queries and the scores -/

variable (X : (⟨S8x512x768, .bf16⟩ : BufTy).Contents (Elt Ideal)) (W : (⟨S768x2048, .bf16⟩ : BufTy).Contents (Elt Ideal))
  (K V : (⟨S8x512x32x64, .bf16⟩ : BufTy).Contents (Elt Ideal)) (O : (⟨S2048x768, .bf16⟩ : BufTy).Contents (Elt Ideal))

theorem ref_query (b : Fin 8) (i : Fin 512) (h : Fin 32) (d : Fin 64) :
    val_main_v6 (F := Ideal) X W (ix4 b i h d) = query X W b h i d := by
  rw [val_main_v6_apply, val_main_v5_apply]
  refine Finset.sum_congr rfl fun e _ => ?_
  refine congrArg₂ (· * ·) (congrArg X ?_) (congrArg W ?_)
  · funext a; apply Fin.ext
    match a with
    | ⟨0, _⟩ => show (((b.val * 512 + i.val) * 32 + h.val) * 64 + d.val) / 1048576 = b.val; omega
    | ⟨1, _⟩ => show (((b.val * 512 + i.val) * 32 + h.val) * 64 + d.val) / 2048 % 512 = i.val; omega
    | ⟨2, _⟩ => rfl
  · funext a; apply Fin.ext
    match a with
    | ⟨0, _⟩ => rfl
    | ⟨1, _⟩ => show (((b.val * 512 + i.val) * 32 + h.val) * 64 + d.val) % 2048 = h.val * 64 + d.val; omega

theorem ref_score (b : Fin 8) (h : Fin 32) (i j : Fin 512) :
    val_main_v26 (F := Ideal) X W K (ix4 b h i j) = score (query X W b h) (keys K b h) i j := by
  rw [val_main_v26_apply, val_main_call4_v1_apply, val_main_v25_apply, val_main_v24_apply, val_main_v22_apply,
    val_main_v23_apply, val_main_call4_v2_apply]
  have em : val_main_v21 (F := Ideal) (idx_main_v25 (idx_main_call4_v1 (ix4 b h i j))) = BitVec.ofBool (shown i j) :=
    (congrArg _ (funext fun a => Fin.ext (by match a with | ⟨0, _⟩ => rfl | ⟨1, _⟩ => rfl))).trans (ref_mask i j)
  have es : ∑ k : Fin 64, val_main_v6 (F := Ideal) X W (lidx_main_v22 (ix4 b h i j) k) * val_main_v2 (F := Ideal) K (ridx_main_v22 (ix4 b h i j) k)
      = ∑ d, query X W b h i d * keys K b h j d := by
    refine Finset.sum_congr rfl fun d _ => congrArg₂ (· * ·) (Eq.trans (congrArg _ ?_) (ref_query X W b i h d)) (congrArg K ?_)
    · funext a; apply Fin.ext
      match a with | ⟨0, _⟩ => rfl | ⟨1, _⟩ => rfl | ⟨2, _⟩ => rfl | ⟨3, _⟩ => rfl
    · funext a; apply Fin.ext
      match a with | ⟨0, _⟩ => rfl | ⟨1, _⟩ => rfl | ⟨2, _⟩ => rfl | ⟨3, _⟩ => rfl
  rw [em, es]
  unfold score
  cases shown i j <;> rfl

/-! ## The rows kept: every one -/

instance : Std.Commutative (IntOp.ori (w := 1)) := ⟨by decide⟩
instance : Std.Associative (IntOp.ori (w := 1)) := ⟨by decide⟩

theorem rows_reduce : S512x512.Reduces [1] S512 := by decide
theorem scores_reduce : S8x32x512x512.Reduces [3] S8x32x512 := by decide

/-- A disjunction one of whose terms holds. -/
theorem fold_ori {n : ℕ} (z : BitVec 1) (f : Fin n → BitVec 1) (i : Fin n) (h : f i = 1#1) :
    (Finset.univ : Finset (Fin n)).fold IntOp.ori z f = 1#1 := by
  classical
  rw [← Finset.insert_erase (Finset.mem_univ i), Finset.fold_insert (Finset.notMem_erase _ _), h]
  exact (by decide : ∀ y : BitVec 1, IntOp.ori 1#1 y = 1#1) _

theorem ref_keep (i : Fin 512) : val_main_v32 (F := Ideal) (ix1 i) = 1#1 := by
  unfold val_main_v32
  refine (Host.reduce_eq_fold_single IntOp.ori _ _ reducesTo_S512x512_S512_d1 rows_reduce h_S_ (ix1 i)).trans (fold_ori _ _ i ?_)
  refine ((congrArg (val_main_v21 (F := Ideal)) ?_).trans (ref_mask i i)).trans (by unfold shown; simp)
  funext a; apply Fin.ext
  match a with
  | ⟨0, _⟩ => exact Shape.Reduces.lift_val ..
  | ⟨1, _⟩ => exact Shape.Reduces.lift_val ..

/-! ## The weights and the result -/

variable {X W K}

theorem fine_ref_score (hX : ∀ i, Fine (X i)) (hW : ∀ i, Fine (W i)) (hK : ∀ i, Fine (K i)) (q : S8x32x512x512.Idx) :
    Fine (val_main_v26 (F := Ideal) X W K q) := by
  obtain ⟨b, h, i, j, rfl⟩ : ∃ (b : Fin 8) (h : Fin 32) (i j : Fin 512), q = ix4 b h i j := ⟨_, _, _, _, eq_ix4 q⟩
  rw [ref_score]
  exact fine_score (fine_query hX hW _ _) (fun _ _ => hK _) _ _

theorem ref_greatest (hX : ∀ i, Fine (X i)) (hW : ∀ i, Fine (W i)) (hK : ∀ i, Fine (K i)) (p : S8x32x512.Idx) :
    Fine (val_main_v27 (F := Ideal) X W K p) := by
  unfold val_main_v27
  refine (Host.reduce_eq_fold_single (FloatOps.maximumf (F := Ideal) (φ := .f32)) _ _ reducesTo_S8x32x512x512_S8x32x512_d3 scores_reduce h_S_ p) ▸ ?_
  rw [show val_main_cst_4 (F := Ideal) (Shape.Idx.first h_S_) = (⊥ : EReal) from ofBits_neg_inf]
  exact Fine.fold_max _ _ (fun k => fine_ref_score hX hW hK _) ⟨(0 : Fin 512), Finset.mem_univ _⟩

/-- The exponential of a score less the greatest of its row. -/
theorem ref_exp (b : Fin 8) (h : Fin 32) (i j : Fin 512) : val_main_v31 (F := Ideal) X W K (ix4 b h i j)
    = Ideal.exp (score (query X W b h) (keys K b h) i j - val_main_v27 (F := Ideal) X W K (ix3 b h i)) := by
  rw [val_main_v31_apply, val_main_v30_apply, val_main_v29_apply, val_main_v28_apply, ref_score]
  refine congrArg (fun t => Ideal.exp (score (query X W b h) (keys K b h) i j - val_main_v27 (F := Ideal) X W K t)) ?_
  funext a; apply Fin.ext
  match a with | ⟨0, _⟩ => rfl | ⟨1, _⟩ => rfl | ⟨2, _⟩ => rfl

theorem ref_weight (hX : ∀ i, Fine (X i)) (hW : ∀ i, Fine (W i)) (hK : ∀ i, Fine (K i)) (b : Fin 8) (h : Fin 32) (i j : Fin 512) :
    val_main_v40 (F := Ideal) X W K (ix4 b h i j) = weight (score (query X W b h) (keys K b h) i) j := by
  rw [val_main_v40_apply, val_main_call6_v1_apply, val_main_v39_apply, val_main_v38_apply, val_main_v37_apply, val_main_v36_apply,
    val_main_call5_v1_apply, val_main_v33_apply, val_main_v35_apply, val_main_v34_apply]
  have e1 : val_main_v32 (F := Ideal) (idx_main_v39 (idx_main_call6_v1 (ix4 b h i j))) = 1#1 :=
    (congrArg _ (funext fun a => Fin.ext (by match a with | ⟨0, _⟩ => rfl))).trans (ref_keep i)
  have e3 : ∑ k : Fin 512, val_main_v31 (F := Ideal) X W K (idx_main_v34 (idx_main_v35 (idx_main_v37 (ix4 b h i j))) k)
      = ∑ k, Ideal.exp (score (query X W b h) (keys K b h) i k - val_main_v27 (F := Ideal) X W K (ix3 b h i)) := by
    refine Finset.sum_congr rfl fun k _ => (congrArg _ ?_).trans (ref_exp b h i k)
    funext a; apply Fin.ext
    match a with | ⟨0, _⟩ => rfl | ⟨1, _⟩ => rfl | ⟨2, _⟩ => rfl | ⟨3, _⟩ => rfl
  rw [e1, e3, ref_exp, show val_main_cst_6 (F := Ideal) (Shape.Idx.first h_S_) = (0 : EReal) from Ideal.ofBits_zero_f32, zero_add]
  exact weight_shift _ (fine_score (fine_query hX hW b h) (fun _ _ => hK _) i) (ref_greatest hX hW hK _) j

theorem ref_context (hX : ∀ i, Fine (X i)) (hW : ∀ i, Fine (W i)) (hK : ∀ i, Fine (K i)) (b : Fin 8) (i : Fin 512) (k : Fin 2048) :
    val_main_v43 (F := Ideal) X W K V (ix3 b i k) = context X W K V b i k := by
  rw [val_main_v43_apply, val_main_v42_apply, val_main_v41_apply]
  unfold context attend
  refine Finset.sum_congr rfl fun j _ => ?_
  rw [mul_comm]
  refine congrArg₂ (· * ·) ((congrArg _ ?_).trans (ref_weight hX hW hK b (headOf k) i j)) (congrArg V ?_)
  · funext a; apply Fin.ext
    match a with
    | ⟨0, _⟩ => show ((b.val * 512 + i.val) * 2048 + k.val) / 1048576 = b.val; omega
    | ⟨1, _⟩ => show ((b.val * 512 + i.val) * 2048 + k.val) / 64 % 32 = k.val / 64; omega
    | ⟨2, _⟩ => show ((b.val * 512 + i.val) * 2048 + k.val) / 2048 % 512 = i.val; omega
    | ⟨3, _⟩ => rfl
  · funext a; apply Fin.ext
    match a with
    | ⟨0, _⟩ => show ((b.val * 512 + i.val) * 2048 + k.val) / 1048576 = b.val; omega
    | ⟨1, _⟩ => rfl
    | ⟨2, _⟩ => show ((b.val * 512 + i.val) * 2048 + k.val) / 64 % 32 = k.val / 64; omega
    | ⟨3, _⟩ => show ((b.val * 512 + i.val) * 2048 + k.val) % 64 = k.val % 64; omega

theorem ref_value (hX : ∀ i, Fine (X i)) (hW : ∀ i, Fine (W i)) (hK : ∀ i, Fine (K i)) (b : Fin 8) (i : Fin 512) (n : Fin 768) :
    val_main_v44 (F := Ideal) X W K V O (ix3 b i n) = ∑ k : Fin 2048, context X W K V b i k * O (ix2 k n) := by
  rw [val_main_v44_apply]
  refine Finset.sum_congr rfl fun k _ => congrArg₂ (· * ·) ((congrArg _ ?_).trans (ref_context V hX hW hK b i k)) (congrArg O ?_)
  · funext a; apply Fin.ext
    match a with | ⟨0, _⟩ => rfl | ⟨1, _⟩ => rfl | ⟨2, _⟩ => rfl
  · funext a; apply Fin.ext
    match a with | ⟨0, _⟩ => rfl | ⟨1, _⟩ => rfl

end Cert.RingProof

end
-- ==== Proof.Host.lean ====
/-
  What the kernel works with, as the arguments: the host's lines cut the device's two batches of the keys and of the values out of
  the whole arrays and sort them by group; the other operands are the arguments themselves.
-/
module

public import proofs.«01_k».proof.Proof.Region
public import proofs.«01_k».proof.Proof.Attend
public import Idealize.ShloMosaic.Lib.StableHlo.RunRead
public import Idealize.ShloMosaic.Lib.WordCmp

@[expose] public section

noncomputable section

namespace Cert.RingProof

open Cert.KernelIdeal Cert.KernelIdeal.Gen
open Idealize.ShloMosaic
open Idealize.ShloMosaic.TcCoe
open Idealize.ShloMosaic.ValueIdx
open scoped BigOperators

variable (m : (ℓ : Loc nD τ sig) → Buf (Elt Ideal) ℓ) (c : Dev nD)

/-- The whole batch that is batch `b` of device `c`. -/
def batchOf (c : Fin 4) (b : Fin 2) : Fin 8 := ⟨2 * c.val + b.val, by omega⟩
/-- The whole head that is head `h` of group `g`. -/
def headIn (g : Fin 4) (h : Fin 8) : Fin 32 := ⟨8 * g.val + h.val, by omega⟩

/-- The word that the batches of device `c` start at. -/
abbrev startWord (c : Dev nD) : IVec S_ 32 :=
  muli (Host.remui (Host.divui (constantI S_ 32 (Dev.word c)) (constantI S_ 32 1#32)) (constantI S_ 32 4#32)) (constantI S_ 32 2#32)
theorem startWord_toInt : ∀ c : Dev nD, (select (cmpi .slt (startWord c) (constantI S_ 32 0#32)) (addi (startWord c) (constantI S_ 32 8#32))
    (startWord c) (Shape.Idx.first h_S_)).toInt = ((2 * c.val : Nat) : Int) := by decide +kernel

/-- Two batches cut out of `A` and sorted by group, read at an index. -/
theorem sorted_apply (A : S8x512x32x64.Idx → EReal) (start : Fin 4 → Int) (h0 : start 0 = ((2 * c.val : Nat) : Int)) (h1 : start 1 = 0) (h2 : start 2 = 0)
    (h3 : start 3 = 0) (g : Fin 4) (b : Fin 2) (h : Fin 8) (j : Fin 512) (d : Fin 64) :
    transpose S4x2x8x512x64 [2, 0, 3, 1, 4] (shapeCast S2x512x4x8x64
      (Host.dynamicSlice S2x512x32x64 A start sliceFits_S8x512x32x64_S2x512x32x64) shapeCasts_S2x512x32x64_S2x512x4x8x64)
      transposes_S2x512x4x8x64_S4x2x8x512x64_2_0_3_1_4 (ix5 g b h j d) = A (ix4 (batchOf c b) j (headIn g h) d) := by
  rw [WordCmp.dynamicSlice_eq_extract _ _ _ _ ![2 * c.val, 0, 0, 0] (by clear h0; revert c; decide +kernel) (fun a => by
    match a with | ⟨0, _⟩ => exact h0 | ⟨1, _⟩ => exact h1 | ⟨2, _⟩ => exact h2 | ⟨3, _⟩ => exact h3)]
  refine (transpose_apply _ _ _ _ (ix5 b j g h d) ?_).trans ?_
  · intro a
    match a with | ⟨0, _⟩ => rfl | ⟨1, _⟩ => rfl | ⟨2, _⟩ => rfl | ⟨3, _⟩ => rfl | ⟨4, _⟩ => rfl
  refine (shapeCast_apply _ _ _ (ix4 b j (headIn g h) d) ?_).trans ?_
  · rw [Shape.rowMajor_val_four, Shape.rowMajor_val_five]
    show ((b.val * 512 + j.val) * 32 + (8 * g.val + h.val)) * 64 + d.val = (((b.val * 512 + j.val) * 4 + g.val) * 8 + h.val) * 64 + d.val
    omega
  refine congrArg A (idx_ext fun a => ?_)
  match a with
  | ⟨0, _⟩ => rfl
  | ⟨1, _⟩ => show 0 + j.val = j.val; omega
  | ⟨2, _⟩ => show 0 + (8 * g.val + h.val) = 8 * g.val + h.val; omega
  | ⟨3, _⟩ => show 0 + d.val = d.val; omega

theorem kAt_apply (g : Fin 4) (b : Fin 2) (h : Fin 8) (j : Fin 512) (d : Fin 64) :
    kAt m c (ix5 g b h j d) = m ((c : Thread nD τ).loc main_arg2) (ix4 (batchOf c b) j (headIn g h) d) := by
  unfold kAt V1
  after_reads_simp
  refine sorted_apply c _ _ ?_ ?_ ?_ ?_ g b h j d
  · refine Eq.trans ?_ (startWord_toInt c)
    show (StableHlo.upto (hostOps0 c) (V0 m c) 16 (Proc.tc.devRef main_v8) (Shape.Idx.first h_S_)).toInt = _
    after_reads_simp; rfl
  · show (StableHlo.upto (hostOps0 c) (V0 m c) 16 (Proc.tc.devRef main_c_4) (Shape.Idx.first h_S_)).toInt = 0
    after_reads_simp; rfl
  · show (StableHlo.upto (hostOps0 c) (V0 m c) 16 (Proc.tc.devRef main_c_5) (Shape.Idx.first h_S_)).toInt = 0
    after_reads_simp; rfl
  · show (StableHlo.upto (hostOps0 c) (V0 m c) 16 (Proc.tc.devRef main_c_6) (Shape.Idx.first h_S_)).toInt = 0
    after_reads_simp; rfl

theorem vAt_apply (g : Fin 4) (b : Fin 2) (h : Fin 8) (j : Fin 512) (d : Fin 64) :
    vAt m c (ix5 g b h j d) = m ((c : Thread nD τ).loc main_arg3) (ix4 (batchOf c b) j (headIn g h) d) := by
  unfold vAt V1
  after_reads_simp
  refine sorted_apply c _ _ ?_ ?_ ?_ ?_ g b h j d
  · refine Eq.trans ?_ (startWord_toInt c)
    show (StableHlo.upto (hostOps0 c) (V0 m c) 29 (Proc.tc.devRef main_v15) (Shape.Idx.first h_S_)).toInt = _
    after_reads_simp; rfl
  · show (StableHlo.upto (hostOps0 c) (V0 m c) 29 (Proc.tc.devRef main_c_10) (Shape.Idx.first h_S_)).toInt = 0
    after_reads_simp; rfl
  · show (StableHlo.upto (hostOps0 c) (V0 m c) 29 (Proc.tc.devRef main_c_11) (Shape.Idx.first h_S_)).toInt = 0
    after_reads_simp; rfl
  · show (StableHlo.upto (hostOps0 c) (V0 m c) 29 (Proc.tc.devRef main_c_12) (Shape.Idx.first h_S_)).toInt = 0
    after_reads_simp; rfl

theorem xAt_eq : xAt m c = m ((c : Thread nD τ).loc main_arg0) := V1_of m c main_arg0 (by decide)
theorem wqAt_eq : wqAt m c = m ((c : Thread nD τ).loc main_arg1) := V1_of m c main_arg1 (by decide)
theorem woAt_eq : woAt m c = m ((c : Thread nD τ).loc main_arg4) := V1_of m c main_arg4 (by decide)

end Cert.RingProof

end
-- ==== Proof.Whole.lean ====
/-
  The kernel's result as the whole arrays': each group of heads is a quarter of the 2048 columns, and the four turns, in whatever
  order a device takes them, add up to the sum over all the columns.
-/
module

public import proofs.«01_k».proof.Proof.Turns
public import proofs.«01_k».proof.Proof.RefValue
public import proofs.«01_k».proof.Proof.Host

@[expose] public section

noncomputable section

namespace Cert.RingProof

open Cert.KernelIdeal Cert.KernelIdeal.Gen
open Idealize.ShloMosaic
open Idealize.ShloMosaic.TcCoe
open Idealize.ShloMosaic.ValueIdx
open scoped BigOperators

/-! ## A group's columns among all of them -/

/-- Column `k` of group `g`. -/
def colIn (g : Fin 4) (k : Fin 512) : Fin 2048 := ⟨g.val * 512 + k.val, by omega⟩

theorem headOf_colIn (g : Fin 4) (k : Fin 512) : headOf (colIn g k) = headIn g (ghead k) := by
  apply Fin.ext; show (g.val * 512 + k.val) / 64 = 8 * g.val + k.val / 64; omega
theorem coordOf_colIn (g : Fin 4) (k : Fin 512) : coordOf (colIn g k) = gcoord k := by
  apply Fin.ext; show (g.val * 512 + k.val) % 64 = k.val % 64; omega
theorem col_headIn (g : Fin 4) (h : Fin 8) (d : Fin 64) : col (headIn g h) d = colIn g (gcol h d) := by
  apply Fin.ext; show (8 * g.val + h.val) * 64 + d.val = g.val * 512 + (h.val * 64 + d.val); omega

/-- A sum over all the columns, group by group. -/
theorem sum_groups (f : Fin 2048 → EReal) : ∑ k : Fin 2048, f k = ∑ g : Fin 4, ∑ k : Fin 512, f (colIn g k) := by
  rw [← Equiv.sum_comp (finProdFinEquiv : Fin 4 × Fin 512 ≃ Fin (4 * 512)) f, Fintype.sum_prod_type]
  refine Finset.sum_congr rfl fun g _ => Finset.sum_congr rfl fun k _ => congrArg f (Fin.ext ?_)
  show k.val + 512 * g.val = g.val * 512 + k.val
  omega

/-- The four turns take the four groups, each once. -/
theorem sum_turns (c : Dev nD) (f : Fin 4 → EReal) :
    f (origin c 0) + f (origin c 1) + f (origin c 2) + f (origin c 3) = ∑ g : Fin 4, f g := by
  rw [Fin.sum_univ_four]
  match c with
  | 0 => show f 0 + f 3 + f 2 + f 1 = _; abel
  | 1 => show f 1 + f 0 + f 3 + f 2 = _; abel
  | 2 => show f 2 + f 1 + f 0 + f 3 = _; abel
  | 3 => show f 3 + f 2 + f 1 + f 0 = _; abel

theorem origin_one : ∀ c : Dev nD, prv c = origin c 1 := by decide
theorem origin_two : ∀ c : Dev nD, prv (prv c) = origin c 2 := by decide
theorem origin_three : ∀ c : Dev nD, prv (prv (prv c)) = origin c 3 := by decide
theorem origin_zero : ∀ c : Dev nD, c = origin c 0 := by decide

/-- At turn `t` the weights are those of the device the turn works for. -/
theorem trav_apply {α : Type} (W : Dev nD → α) (c : Dev nD) (t : Fin 4) : trav W c t = W (origin c t) := by
  match t with
  | 0 => exact congrArg W (origin_zero c)
  | 1 => exact congrArg W (origin_one c)
  | 2 => exact congrArg W (origin_two c)
  | 3 => exact congrArg W (origin_three c)

/-! ## One turn, over the whole arrays -/

variable (X : (⟨3, ![8, 512, 768]⟩ : Shape).Idx → EReal) (W : (⟨2, ![768, 2048]⟩ : Shape).Idx → EReal)
  (K V : S8x512x32x64.Idx → EReal) (O : (⟨2, ![2048, 768]⟩ : Shape).Idx → EReal)

theorem turn_whole (c : Dev nD) (g : Fin 4) {x : S2x512x768.Idx → EReal} {kb vb : S4x2x8x512x64.Idx → EReal} {q : S768x512.Idx → EReal}
    {w : S512x768.Idx → EReal} (hx : ∀ b i e, x (ix3 b i e) = X (ix3 (batchOf c b) i e))
    (hk : ∀ b h j d, kb (ix5 g b h j d) = K (ix4 (batchOf c b) j (headIn g h) d))
    (hv : ∀ b h j d, vb (ix5 g b h j d) = V (ix4 (batchOf c b) j (headIn g h) d))
    (hq : ∀ e k, q (ix2 e k) = W (ix2 e (colIn g k))) (hw : ∀ k n, w (ix2 k n) = O (ix2 (colIn g k) n))
    (b : Fin 2) (i : Fin 512) (n : Fin 768) :
    turn x kb vb q w b g i n = ∑ k : Fin 512, context X W K V (batchOf c b) i (colIn g k) * O (ix2 (colIn g k) n) := by
  unfold turn context query keys
  refine Finset.sum_congr rfl fun k _ => ?_
  rw [hw, headOf_colIn, coordOf_colIn]
  simp only [hx, hk, hv, hq, col_headIn]

/-! ## The device's result -/

variable (m : (ℓ : Loc nD τ sig) → Buf (Elt Ideal) ℓ)

/-- What device `c` computes from its blocks of the whole arrays. -/
theorem res_whole
    (hX : ∀ (c : Dev nD) b i e, m ((c : Thread nD τ).loc main_arg0) (ix3 b i e) = X (ix3 (batchOf c b) i e))
    (hW : ∀ (c : Dev nD) e k, m ((c : Thread nD τ).loc main_arg1) (ix2 e k) = W (ix2 e (colIn c k)))
    (hK : ∀ c : Dev nD, m ((c : Thread nD τ).loc main_arg2) = K) (hV : ∀ c : Dev nD, m ((c : Thread nD τ).loc main_arg3) = V)
    (hO : ∀ (c : Dev nD) k n, m ((c : Thread nD τ).loc main_arg4) (ix2 k n) = O (ix2 (colIn c k) n))
    (c : Dev nD) (b : Fin 2) (i : Fin 512) (n : Fin 768) :
    res m c (ix3 b i n) = ∑ k : Fin 2048, context X W K V (batchOf c b) i k * O (ix2 k n) := by
  have step : ∀ t : Fin 4, turn (xAt m c) (kAt m c) (vAt m c) (trav (wqAt m) c t) (trav (woAt m) c t) b (origin c t) i n
      = ∑ k : Fin 512, context X W K V (batchOf c b) i (colIn (origin c t) k) * O (ix2 (colIn (origin c t) k) n) := fun t => by
    rw [trav_apply, trav_apply, wqAt_eq, woAt_eq, xAt_eq]
    exact turn_whole X W K V O c (origin c t) (hX c) (fun b h j d => (kAt_apply m c _ b h j d).trans (congrFun (hK c) _))
      (fun b h j d => (vAt_apply m c _ b h j d).trans (congrFun (hV c) _)) (hW _) (hO _) b i n
  unfold res
  rw [result_apply]
  unfold turns
  rw [step 0, step 1, step 2, step 3, sum_groups]
  exact sum_turns c fun g => ∑ k : Fin 512, context X W K V (batchOf c b) i (colIn g k) * O (ix2 (colIn g k) n)

end Cert.RingProof

end
-- ==== Proof.Finite.lean ====
/-
  The precondition, read: where every device's block of `x`, of `Wq` and of the keys is finite, the whole arrays are.
-/
module

public import proofs.«01_k».proof.Proof.Whole
public import proofs.«01_k».proof.Pre_finite_score_inputs_KernelIdeal
public import proofs.«01_k».proof.Pre_finite_score_inputs_ReferenceIdeal

@[expose] public section

noncomputable section

namespace Cert.RingProof

open Cert.KernelIdeal Cert.KernelIdeal.Gen
open Idealize.ShloMosaic
open Idealize.ShloMosaic.TcCoe
open Idealize.ShloMosaic.ValueIdx

/-- The shapes the precondition states, over the blocks and over the whole arrays. -/
theorem pre_blocks : Cert.Pre_finite_score_inputs_KernelIdeal.Facts := ⟨by decide, by decide, by decide⟩
theorem pre_whole : Cert.Pre_finite_score_inputs_ReferenceIdeal.Facts := ⟨by decide, by decide, by decide⟩

theorem ofBits_pos_inf : Ideal.ofBits .bf16 0x7F80#16 = ⊤ := by simp [Ideal.ofBits, Ideal.ieee]

/-- An array whose absolute values are all below infinity holds reals. -/
theorem fine_of_below {S : Shape} (a : FVec Ideal S .bf16) (hb) (h : cmpf .olt (Host.absf a)
    (broadcastInDim S ![] hb (constant (F := Ideal) ⟨0, ![]⟩ .bf16 0x7F80#16)) = fun _ => 1#1) (i : S.Idx) : Fine (a i) := by
  have e : BitVec.ofBool (decide (Max.max (a i) (-(a i)) < Ideal.ofBits .bf16 0x7F80#16)) = 1#1 := congrFun h i
  rw [ofBits_pos_inf] at e
  refine Fine.of_abs_lt ?_
  by_contra hc
  rw [decide_eq_false hc] at e
  exact absurd e (by decide)

/-! ## Each element of a whole array lies in some block -/

theorem block_x (X : (⟨3, ![8, 512, 768]⟩ : Shape).Idx → EReal) (c : Fin 4) (b : Fin 2) (i : Fin 512) (e : Fin 768) :
    Layout.block ⟨3, ![2, 512, 768]⟩ ⟨3, ![8, 512, 768]⟩ 0 4 c X (by decide) (ix3 b i e) = X (ix3 (batchOf c b) i e) := by
  refine congrArg X (idx_ext fun a => ?_)
  match a with
  | ⟨0, _⟩ => show c.val * 2 + b.val = 2 * c.val + b.val; omega
  | ⟨1, _⟩ => rfl
  | ⟨2, _⟩ => rfl

theorem block_q (W : (⟨2, ![768, 2048]⟩ : Shape).Idx → EReal) (c : Fin 4) (e : Fin 768) (k : Fin 512) :
    Layout.block ⟨2, ![768, 512]⟩ ⟨2, ![768, 2048]⟩ 1 4 c W (by decide) (ix2 e k) = W (ix2 e (colIn c k)) := by
  refine congrArg W (idx_ext fun a => ?_)
  match a with
  | ⟨0, _⟩ => rfl
  | ⟨1, _⟩ => rfl

theorem block_o (O : (⟨2, ![2048, 768]⟩ : Shape).Idx → EReal) (c : Fin 4) (k : Fin 512) (n : Fin 768) :
    Layout.block ⟨2, ![512, 768]⟩ ⟨2, ![2048, 768]⟩ 0 4 c O (by decide) (ix2 k n) = O (ix2 (colIn c k) n) := by
  refine congrArg O (idx_ext fun a => ?_)
  match a with
  | ⟨0, _⟩ => rfl
  | ⟨1, _⟩ => rfl

theorem batch_cover (b : Fin 8) : ∃ c b', b = batchOf c b' :=
  ⟨⟨b.val / 2, by omega⟩, ⟨b.val % 2, by omega⟩, Fin.ext (by show b.val = 2 * (b.val / 2) + b.val % 2; omega)⟩
theorem col_cover (k : Fin 2048) : ∃ g k', k = colIn g k' :=
  ⟨⟨k.val / 512, by omega⟩, ⟨k.val % 512, by omega⟩, Fin.ext (by show k.val = k.val / 512 * 512 + k.val % 512; omega)⟩

theorem fine_x {X : (⟨3, ![8, 512, 768]⟩ : Shape).Idx → EReal} (h : ∀ c b i e, Fine (X (ix3 (batchOf c b) i e))) (p) : Fine (X p) := by
  obtain ⟨b, i, e, rfl⟩ : ∃ (b : Fin 8) (i : Fin 512) (e : Fin 768), p = ix3 b i e := ⟨_, _, _, eq_ix3 p⟩
  obtain ⟨c, b', rfl⟩ := batch_cover b
  exact h c b' i e
theorem fine_q {W : (⟨2, ![768, 2048]⟩ : Shape).Idx → EReal} (h : ∀ c e k, Fine (W (ix2 e (colIn c k)))) (p) : Fine (W p) := by
  obtain ⟨e, k, rfl⟩ : ∃ (e : Fin 768) (k : Fin 2048), p = ix2 e k := ⟨_, _, eq_ix2 p⟩
  obtain ⟨g, k', rfl⟩ := col_cover k
  exact h g e k'

end Cert.RingProof

end
-- ==== Proof.Values.lean ====
/-
  The value claim: at exact floats, and where the scores are finite, every device ends with its block of the reference's result.
-/
module

public import proofs.«01_k».proof.Proof.Finite
public import proofs.«01_k».proof.Proof.Launch
public import proofs.«01_k».proof.Proof.Reference

@[expose] public section

noncomputable section

namespace Cert.RingProof

open Idealize.ShloMosaic Idealize.SL.Sem
open Idealize.ShloMosaic.TcCoe
open Idealize.ShloMosaic.ValueIdx

instance : Cert.Pre_finite_score_inputs_KernelIdeal.Facts := pre_blocks

theorem value_claim : Cert.algebraic_KernelIdeal_ReferenceIdeal_pre_finite_score_inputs_KernelIdeal := by
  intro m g m' g' hpre hblk
  refine ⟨Cert.ReferenceIdeal.Value.res_main_v44 m' 0, ?_,
    (θ_run _ _ _).mono (fun r h => h 0) (Cert.ReferenceIdeal.Value.run (F := Ideal) m' g')⟩
  refine (θ_run _ _ _).mono (fun r h c => ⟨((h.1 c).1).trans ?_, (h.1 c).2⟩) (run_main (F := Ideal) m g)
  have hX : ∀ p, Fine (m' (((0 : Dev Cert.ReferenceIdeal.nD).tc : Thread _ Cert.ReferenceIdeal.τ).loc Cert.ReferenceIdeal.main_arg0) p) :=
    fine_x fun c b i e =>
      Eq.mp (congrArg Fine ((congrFun (hblk c).1 _).trans (block_x _ c b i e))) (fine_of_below _ _ (hpre c).1 _)
  have hW : ∀ p, Fine (m' (((0 : Dev Cert.ReferenceIdeal.nD).tc : Thread _ Cert.ReferenceIdeal.τ).loc Cert.ReferenceIdeal.main_arg1) p) :=
    fine_q fun c e k =>
      Eq.mp (congrArg Fine ((congrFun (hblk c).2.1 _).trans (block_q _ c e k))) (fine_of_below _ _ (hpre c).2.1 _)
  have hK : ∀ p, Fine (m' (((0 : Dev Cert.ReferenceIdeal.nD).tc : Thread _ Cert.ReferenceIdeal.τ).loc Cert.ReferenceIdeal.main_arg2) p) := fun p => by
    rw [← (hblk 0).2.2.1]
    exact fine_of_below _ _ (hpre 0).2.2 _
  funext p
  obtain ⟨b, i, n, rfl⟩ : ∃ (b : Fin 2) (i : Fin 512) (n : Fin 768), p = ix3 b i n := ⟨_, _, _, eq_ix3 p⟩
  refine (res_whole _ _ _ _ _ m (fun c b i e => (congrFun (hblk c).1 _).trans (block_x _ c b i e))
    (fun c e k => (congrFun (hblk c).2.1 _).trans (block_q _ c e k)) (fun c => (hblk c).2.2.1) (fun c => (hblk c).2.2.2.1)
    (fun c k n => (congrFun (hblk c).2.2.2.2 _).trans (block_o _ c k n)) c b i n).trans ?_
  refine Eq.trans ?_ (block_x _ c b i n).symm
  rw [Cert.ReferenceIdeal.Read.val_main_v44_eq]
  exact (ref_value _ _ hX hW hK (batchOf c b) i n).symm

/-- The frames stated under the precondition hold without it. -/
theorem frame_kernelIdeal_pre : Cert.quiescent_KernelIdeal_pre_finite_score_inputs_KernelIdeal := fun m g _ =>
  (θ_run _ _ _).mono (fun r h => ⟨fun c => (h.1 c).2, h.2⟩) (run_main (F := Ideal) m g)

theorem frame_referenceIdeal_pre (hf : Cert.Pre_finite_score_inputs_ReferenceIdeal.Facts) :
    Cert.quiescent_ReferenceIdeal_pre_finite_score_inputs_ReferenceIdeal := fun m g _ => frame_referenceIdeal m g trivial

end Cert.RingProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Reference
public import proofs.«01_k».proof.Proof.Values

/-! The proof of `Cert.Claim`: the frames, the preservation and the value claim, each taken from the
module that proves it. -/

@[expose] public section

noncomputable section

namespace Cert.Proof

open Cert.RingProof

theorem claim : Cert.Claim :=
  ⟨Cert.Kernel.Gen.facts, Cert.KernelIdeal.Gen.facts, Cert.ReferenceIdeal.Gen.facts, pre_blocks, pre_whole,
    frame_kernel, frame_kernelIdeal, frame_kernelIdeal_pre, frame_referenceIdeal, frame_referenceIdeal_pre pre_whole,
    trivial, value_claim⟩

end Cert.Proof

end
